-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S_ : Shape := ⟨0, ![]⟩

class Facts : Prop where
  bcast_S_S512x256 : S_.BroadcastsInDim S512x256 (![] : Fin 0 → Fin S512x256.rank)
  bcast_S_S256x8 : S_.BroadcastsInDim S256x8 (![] : Fin 0 → Fin S256x8.rank)
  bcast_S_S512x2 : S_.BroadcastsInDim S512x2 (![] : Fin 0 → Fin S512x2.rank)

variable [Facts]

def fn {F : FTy → Type} [FloatOps F] (main_arg0 : FVec F S512x256 .f32) (main_arg1 : FVec F S256x8 .f32) (main_arg2 : IVec S512x2 32) (main_arg3 : FVec F S2x256x512 .f32) : IVec S512x256 1 × IVec S256x8 1 × IVec S512x2 1 :=
  let main_cst : FVec F S_ .f32 := constant S_ .f32 0xFF800000#32
  let main_v0 : FVec F S512x256 .f32 := broadcastInDim S512x256 ![] bcast_S_S512x256 main_cst
  let main_v1 : IVec S512x256 1 := cmpf .ogt main_arg0 main_v0
  let main_cst_0 : FVec F S_ .f32 := constant S_ .f32 0x7F800000#32
  let main_v2 : FVec F S512x256 .f32 := broadcastInDim S512x256 ![] bcast_S_S512x256 main_cst_0
  let main_v3 : IVec S512x256 1 := cmpf .olt main_arg0 main_v2
  let main_v4 : IVec S512x256 1 := andi main_v1 main_v3
  let main_cst_1 : FVec F S_ .f32 := constant S_ .f32 0xFF800000#32
  let main_v5 : FVec F S256x8 .f32 := broadcastInDim S256x8 ![] bcast_S_S256x8 main_cst_1
  let main_v6 : IVec S256x8 1 := cmpf .ogt main_arg1 main_v5
  let main_cst_2 : FVec F S_ .f32 := constant S_ .f32 0x7F800000#32
  let main_v7 : FVec F S256x8 .f32 := broadcastInDim S256x8 ![] bcast_S_S256x8 main_cst_2
  let main_v8 : IVec S256x8 1 := cmpf .olt main_arg1 main_v7
  let main_v9 : IVec S256x8 1 := andi main_v6 main_v8
  let main_c : IVec S_ 32 := constantI S_ 32 0#32
  let main_v10 : IVec S512x2 32 := broadcastInDim S512x2 ![] bcast_S_S512x2 main_c
  let main_v11 : IVec S512x2 1 := cmpi .sge main_arg2 main_v10
  let main_c_3 : IVec S_ 32 := constantI S_ 32 8#32
  let main_v12 : IVec S512x2 32 := broadcastInDim S512x2 ![] bcast_S_S512x2 main_c_3
  let main_v13 : IVec S512x2 1 := cmpi .slt main_arg2 main_v12
  let main_v14 : IVec S512x2 1 := andi main_v11 main_v13
  (main_v4, main_v9, main_v14)
-- ==== Pre_routed_ReferenceIdeal.lean ====
abbrev S512x256 : Shape := ⟨2, ![512, 256]⟩
abbrev S256x8 : Shape := ⟨2, ![256, 8]⟩
abbrev S512x2 : Shape := ⟨2, ![512, 2]⟩
abbrev S8x256x512 : Shape := ⟨3, ![8, 256, 512]⟩
abbrev S_ : Shape := ⟨0, ![]⟩

class Facts : Prop where
  bcast_S_S512x256 : S_.BroadcastsInDim S512x256 (![] : Fin 0 → Fin S512x256.rank)
  bcast_S_S256x8 : S_.BroadcastsInDim S256x8 (![] : Fin 0 → Fin S256x8.rank)
  bcast_S_S512x2 : S_.BroadcastsInDim S512x2 (![] : Fin 0 → Fin S512x2.rank)

variable [Facts]

def fn {F : FTy → Type} [FloatOps F] (main_arg0 : FVec F S512x256 .f32) (main_arg1 : FVec F S256x8 .f32) (main_arg2 : IVec S512x2 32) (main_arg3 : FVec F S8x256x512 .f32) : IVec S512x256 1 × IVec S256x8 1 × IVec S512x2 1 :=
  let main_cst : FVec F S_ .f32 := constant S_ .f32 0xFF800000#32
  let main_v0 : FVec F S512x256 .f32 := broadcastInDim S512x256 ![] bcast_S_S512x256 main_cst
  let main_v1 : IVec S512x256 1 := cmpf .ogt main_arg0 main_v0
  let main_cst_0 : FVec F S_ .f32 := constant S_ .f32 0x7F800000#32
  let main_v2 : FVec F S512x256 .f32 := broadcastInDim S512x256 ![] bcast_S_S512x256 main_cst_0
  let main_v3 : IVec S512x256 1 := cmpf .olt main_arg0 main_v2
  let main_v4 : IVec S512x256 1 := andi main_v1 main_v3
  let main_cst_1 : FVec F S_ .f32 := constant S_ .f32 0xFF800000#32
  let main_v5 : FVec F S256x8 .f32 := broadcastInDim S256x8 ![] bcast_S_S256x8 main_cst_1
  let main_v6 : IVec S256x8 1 := cmpf .ogt main_arg1 main_v5
  let main_cst_2 : FVec F S_ .f32 := constant S_ .f32 0x7F800000#32
  let main_v7 : FVec F S256x8 .f32 := broadcastInDim S256x8 ![] bcast_S_S256x8 main_cst_2
  let main_v8 : IVec S256x8 1 := cmpf .olt main_arg1 main_v7
  let main_v9 : IVec S256x8 1 := andi main_v6 main_v8
  let main_c : IVec S_ 32 := constantI S_ 32 0#32
  let main_v10 : IVec S512x2 32 := broadcastInDim S512x2 ![] bcast_S_S512x2 main_c
  let main_v11 : IVec S512x2 1 := cmpi .sge main_arg2 main_v10
  let main_c_3 : IVec S_ 32 := constantI S_ 32 8#32
  let main_v12 : IVec S512x2 32 := broadcastInDim S512x2 ![] bcast_S_S512x2 main_c_3
  let main_v13 : IVec S512x2 1 := cmpi .slt main_arg2 main_v12
  let main_v14 : IVec S512x2 1 := andi main_v11 main_v13
  (main_v4, main_v9, main_v14)
-- ==== Kernel.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S512x512 : Shape := ⟨2, ![512, 512]⟩
abbrev S4x128x512 : Shape := ⟨3, ![4, 128, 512]⟩
abbrev S8 : Shape := ⟨1, ![8]⟩
abbrev S_ : Shape := ⟨0, ![]⟩
abbrev S512x8 : Shape := ⟨2, ![512, 8]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S128x256 : Shape := ⟨2, ![128, 256]⟩
abbrev S128x512 : Shape := ⟨2, ![128, 512]⟩
abbrev S1x128x512 : Shape := ⟨3, ![1, 128, 512]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x2, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x8, .f32⟩
  | .local _ .vmem, ⟨2, _⟩ => ⟨S512x2, .i32⟩
  | .local _ .vmem, ⟨3, _⟩ => ⟨S2x256x512, .f32⟩
  | .local _ .vmem, ⟨4, _⟩ => ⟨S512x512, .f32⟩
  | .local _ .vmem, ⟨5, _⟩ => ⟨S4x128x512, .bf16⟩
  | .local _ .vmem, ⟨6, _⟩ => ⟨S4x128x512, .bf16⟩
  | .local _ .vmem, ⟨7, _⟩ => ⟨S4x128x512, .bf16⟩
  | .local _ .vmem, ⟨8, _⟩ => ⟨S4x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_39 : BitVec 32 := 1#32
  let v76 : BitVec 32 := Scalar.muli v3 c1_i32_39
  let v77 : BitVec 32 := Scalar.addi c0_i32_40 v76
  v77.toNat
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_54 : BitVec 32 := 1#32
  let v96 : BitVec 32 := Scalar.muli v4 c1_i32_54
  let v97 : BitVec 32 := Scalar.addi c0_i32_55 v96
  v97.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_70 : BitVec 32 := 1#32
  let v116 : BitVec 32 := Scalar.muli v3 c1_i32_70
  let v117 : BitVec 32 := Scalar.addi c0_i32_71 v116
  v117.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_85 : BitVec 32 := 1#32
  let v136 : BitVec 32 := Scalar.muli v4 c1_i32_85
  let v137 : BitVec 32 := Scalar.addi c0_i32_86 v136
  v137.toNat
def k0_dev7 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_124 : BitVec 32 := 1#32
  let v171 : BitVec 32 := Scalar.muli v4 c1_i32_124
  let v172 : BitVec 32 := Scalar.addi c0_i32_125 v171
  v172.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_162 : BitVec 32 := 1#32
  let v206 : BitVec 32 := Scalar.muli v3 c1_i32_162
  let v207 : BitVec 32 := Scalar.addi c0_i32_163 v206
  v207.toNat
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_200 : BitVec 32 := 1#32
  let v241 : BitVec 32 := Scalar.muli v4 c1_i32_200
  let v242 : BitVec 32 := Scalar.addi c0_i32_201 v241
  v242.toNat
def k0_dev10 (d0 : Dev nD) : Nat :=
  let c0_i32_239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_238 : BitVec 32 := 1#32
  let v276 : BitVec 32 := Scalar.muli v3 c1_i32_238
  let v277 : BitVec 32 := Scalar.addi c0_i32_239 v276
  v277.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x2 : Shape := ⟨2, ![512, 2]⟩
abbrev S8x256x512 : Shape := ⟨3, ![8, 256, 512]⟩
abbrev S512x8 : Shape := ⟨2, ![512, 8]⟩
abbrev S_ : Shape := ⟨0, ![]⟩
abbrev S512 : Shape := ⟨1, ![512]⟩
abbrev S512x1 : Shape := ⟨2, ![512, 1]⟩
abbrev S512x8x512 : Shape := ⟨3, ![512, 8, 512]⟩
abbrev S1x8 : Shape := ⟨2, ![1, 8]⟩
abbrev S512x8x1 : Shape := ⟨3, ![512, 8, 1]⟩
abbrev S512x512 : Shape := ⟨2, ![512, 512]⟩

abbrev nBuf : Space → Nat
  | .hbm => 59
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x2, .i32⟩
  | .hbm, ⟨3, _⟩ => ⟨S8x256x512, .f32⟩
  | .hbm, ⟨4, _⟩ => ⟨S512x8, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x8, .f32⟩
  | .hbm, ⟨9, _⟩ => ⟨S512x8, .f32⟩
  | .hbm, ⟨10, _⟩ => ⟨S512x8, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x8, .f32⟩
  | .hbm, ⟨15, _⟩ => ⟨S512x8, .f32⟩
  | .hbm, ⟨16, _⟩ => ⟨S512x8x512, .f32⟩
  | .hbm, ⟨17, _⟩ => ⟨S512x1, .i32⟩
  | .hbm, ⟨18, _⟩ => ⟨S512, .i32⟩
  | .hbm, ⟨19, _⟩ => ⟨S512x1, .i32⟩
  | .hbm, ⟨20, _⟩ => ⟨S1x8, .i32⟩
  | .hbm, ⟨21, _⟩ => ⟨S512x8, .i32⟩
  | .hbm, ⟨22, _⟩ => ⟨S512x8, .i32⟩
  | .hbm, ⟨23, _⟩ => ⟨S512x8, .i1⟩
  | .hbm, ⟨24, _⟩ => ⟨S512x8, .f32⟩
  | .hbm, ⟨25, _⟩ => ⟨S512x1, .i32⟩
  | .hbm, ⟨26, _⟩ => ⟨S512, .i32⟩
  | .hbm, ⟨27, _⟩ => ⟨S512x1, .i32⟩
  | .hbm, ⟨28, _⟩ => ⟨S1x8, .i32⟩
  | .hbm, ⟨29, _⟩ => ⟨S512x8, .i32⟩
  | .hbm, ⟨30, _⟩ => ⟨S512x8, .i32⟩
  | .hbm, ⟨31, _⟩ => ⟨S512x8, .i1⟩
  | .hbm, ⟨32, _⟩ => ⟨S512x8, .f32⟩
  | .hbm, ⟨33, _⟩ => ⟨S512x8, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S512x8, .f32⟩
  | .hbm, ⟨38, _⟩ => ⟨S_, .f32⟩
  | .hbm, ⟨39, _⟩ => ⟨S512, .f32⟩
  | .hbm, ⟨40, _⟩ => ⟨S512x1, .f32⟩
  | .hbm, ⟨41, _⟩ => ⟨S512x1, .f32⟩
  | .hbm, ⟨42, _⟩ => ⟨S512x8x1, .f32⟩
  | .hbm, ⟨43, _⟩ => ⟨S512x8x512, .f32⟩
  | .hbm, ⟨44, _⟩ => ⟨S512x8x512, .f32⟩
  | .hbm, ⟨45, _⟩ => ⟨S_, .f32⟩
  | .hbm, ⟨46, _⟩ => ⟨S512x512, .f32⟩
  | .hbm, ⟨47, _⟩ => ⟨S512x8x1, .f32⟩
  | .hbm, ⟨48, _⟩ => ⟨S512x8x512, .f32⟩
  | .hbm, ⟨49, _⟩ => ⟨S512x8x512, .f32⟩
  | .hbm, ⟨50, _⟩ => ⟨S_, .f32⟩
  | .hbm, ⟨51, _⟩ => ⟨S512x512, .f32⟩
  | .hbm, ⟨52, _⟩ => ⟨S512x1, .f32⟩
  | .hbm, ⟨53, _⟩ => ⟨S512x512, .f32⟩
  | .hbm, ⟨54, _⟩ => ⟨S512x512, .f32⟩
  | .hbm, ⟨55, _⟩ => ⟨S512x1, .f32⟩
  | .hbm, ⟨56, _⟩ => ⟨S512x512, .f32⟩
  | .hbm, ⟨57, _⟩ => ⟨S512x512, .f32⟩
  | .hbm, ⟨58, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Proof.Moe.Parts.lean ====
/-
# `Parts`: a rectangle of a buffer as a thing a device owns

The kernel works on rectangles of its buffers: a chunk of 128 rows of the result, one slot of a staging or landing
buffer. `part c M r v` says that device `c` owns the elements of rectangle `r` of `M` and that they read `v`; the rules
here load such a rectangle, store over it, and cut a whole buffer into its rectangles.
-/
module

public import proofs.«01_k».proof.Proof.Gen.KernelIdeal.Frame
public import Idealize.ShloMosaic.Lib.Pipeline.Launch
public import Idealize.ShloMosaic.Lib.Pipeline.Kit
public import Idealize.ShloMosaic.Lib.ViewIndex
public import Idealize.ShloMosaic.Lib.Writes

@[expose] public section

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own rounds and the exchange's (duties named by a Boolean). -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The kernel calls nothing: no recursion variants. -/
abbrev 𝒱₀ : Variants := Variants.none

/-- Weakest precondition of a piece of the kernel on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Part
variable {s : Shape} {e : EltTy}

/-- Device `c` owns rectangle `r` of `M`, and it reads `v`. -/
def part (c : Dev nD) (M : Memref sig .tc .vmem s e) (r : Rect s) (v : r.shape.Idx → Elt F e) : sProp 𝕄 :=
  iprop(∃ f : Buf (Elt F) ((M.access r).loc (c : Thread nD τ)), ⌜(M.access r).read (Elt F) f = v⌝
    ∗ ((M.access r).loc (c : Thread nD τ) ↦[(M.access r).set]{fullShare} f))

/-- It owns the rectangle, whatever it holds. -/
def spare (c : Dev nD) (M : Memref sig .tc .vmem s e) (r : Rect s) : sProp 𝕄 :=
  iprop(∃ f : Buf (Elt F) ((M.access r).loc (c : Thread nD τ)), (M.access r).loc (c : Thread nD τ) ↦[(M.access r).set]{fullShare} f)

instance part_storable (c : Dev nD) (M : Memref sig .tc .vmem s e) (r : Rect s) (v : r.shape.Idx → Elt F e) :
    BI.Storable (upEmb : UEmb _ 𝕄) (part (F := F) c M r v) := by unfold part; infer_instance
instance spare_storable (c : Dev nD) (M : Memref sig .tc .vmem s e) (r : Rect s) :
    BI.Storable (upEmb : UEmb _ 𝕄) (spare (F := F) c M r) := by unfold spare; infer_instance

theorem part_spare (c : Dev nD) (M : Memref sig .tc .vmem s e) (r : Rect s) (v : r.shape.Idx → Elt F e) :
    (part c M r v : sProp 𝕄) ⊢ spare c M r := by
  unfold part spare
  iintro ⟨%f, -, H⟩
  iexists f; iexact H

/-- Loading an owned rectangle yields what it reads. -/
theorem load_part (c : Dev nD) {α : Type} (M : Memref sig .tc .vmem s e) (r : Rect s) (v : r.shape.Idx → Elt F e)
    {hl : M.view.LoadsAt r} {k : (r.shape.Idx → Elt F e) → Prog (TpuEff nD τ sig (Elt F) Λ₀ .tc) α} {Q : α → sProp 𝕄} :
    (part c M r v) ⊢ iprop((part c M r v -∗ run c (k v) Q) -∗ run c (.op (.load M r hl) k) Q) := by
  unfold part
  iintro ⟨%f, %hf, H⟩ Hk
  subst hf
  iapply (wp_load_rect 𝒱₀ (c : Thread nD τ) none Set.univ (r := r) (subset_refl _)) $$ H
  iintro H
  iapply Hk
  iexists f
  isplitr; · ipureintro; rfl
  iexact H

/-- Loading a spare rectangle yields something. -/
theorem load_spare (c : Dev nD) {α : Type} (M : Memref sig .tc .vmem s e) (r : Rect s)
    {hl : M.view.LoadsAt r} {k : (r.shape.Idx → Elt F e) → Prog (TpuEff nD τ sig (Elt F) Λ₀ .tc) α} {Q : α → sProp 𝕄} :
    (spare c M r) ⊢ iprop((∀ v, spare c M r -∗ run c (k v) Q) -∗ run c (.op (.load M r hl) k) Q) := by
  unfold spare
  iintro ⟨%f, H⟩ Hk
  iapply (wp_load_rect 𝒱₀ (c : Thread nD τ) none Set.univ (r := r) (subset_refl _)) $$ H
  iintro H
  iapply Hk
  iexists f
  iexact H

/-- Storing over a whole spare rectangle: it then reads what was stored. -/
theorem store_spare (c : Dev nD) {α : Type} (M : Memref sig .tc .vmem s e) (r : Rect s) (w : r.shape.Idx → Elt F e)
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (spare c M r) ⊢ iprop((part c M r w -∗ run c (k ⟨⟩) Q) -∗ run c (.op (.store M r w Finset.univ hx hm) k) Q) := by
  unfold spare part
  iintro ⟨%f, H⟩ Hk
  iapply (wp_store 𝒱₀ (c : Thread nD τ) none Set.univ (m := M) (r := r) (w := w) (Mk := Finset.univ)
    (S := (M.access r).set) (f := f) (subset_refl _)) $$ H
  iintro H
  iapply Hk
  iexists ((M.access r).write (Elt F) f w Finset.univ)
  isplitr; · ipureintro; exact View.read_write_univ (v := M.access r) f w
  iexact H

/-- Storing over a rectangle whose contents are known. -/
theorem store_part (c : Dev nD) {α : Type} (M : Memref sig .tc .vmem s e) (r : Rect s) (v w : r.shape.Idx → Elt F e)
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (part c M r v) ⊢ iprop((part c M r w -∗ run c (k ⟨⟩) Q) -∗ run c (.op (.store M r w Finset.univ hx hm) k) Q) :=
  (part_spare c M r v).trans (store_spare c M r w)

/-- The rectangles of a family cut a whole buffer up: they cover it and no two meet. -/
structure Cuts {T : Type} [Fintype T] [DecidableEq T] (M : Memref sig .tc .vmem s e) (R : T → Rect s) : Prop where
  cover : Finset.univ.biUnion (fun t => (M.access (R t)).set) = M.view.set
  apart : ∀ t ∈ (Finset.univ : Finset T), ∀ t' ∈ (Finset.univ : Finset T), t ≠ t' → Disjoint (M.access (R t)).set (M.access (R t')).set

theorem Cuts.of_rects {T : Type} [Fintype T] [DecidableEq T] (M : Memref sig .tc .vmem s e) (R : T → Rect s)
    (hc : ∀ x : s.Idx, ∃ t, x ∈ (R t).set) (hd : ∀ t t', t ≠ t' → Disjoint (R t).set (R t').set) : Cuts M R where
  cover := by
    ext i
    simp only [Finset.mem_biUnion, Finset.mem_univ, true_and]
    constructor
    · rintro ⟨t, ht⟩; exact View.set_slice_subset _ _ ht
    · intro hi
      obtain ⟨x, -, rfl⟩ := Finset.mem_map.mp hi
      obtain ⟨t, ht⟩ := hc x
      exact ⟨t, by rw [View.set_slice]; exact Finset.mem_map_of_mem _ ht⟩
  apart t _ t' _ h := by
    rw [View.set_slice, View.set_slice]
    exact (Finset.disjoint_map _).mpr (hd t t' h)

variable {T : Type} [Fintype T] [DecidableEq T]

/-- A whole buffer is its rectangles. -/
theorem cut_spare (c : Dev nD) (M : Memref sig .tc .vmem s e) (R : T → Rect s) (h : Cuts M R) :
    (iprop(∃ f : Buf (Elt F) (M.view.loc (c : Thread nD τ)), M.view.loc (c : Thread nD τ) ↦[M.view.set]{fullShare} f) : sProp 𝕄)
      ⊢ bigSep Finset.univ fun t => spare c M (R t) := by
  iintro ⟨%f, H⟩
  rw [← h.cover]
  ihave H' := (Entails.of_eq (pointsTo_biUnion (f := f) Finset.univ (fun t => (M.access (R t)).set) h.apart)) $$ H
  iapply (show (bigSep Finset.univ fun t => (M.view.loc (c : Thread nD τ) ↦[(M.access (R t)).set]{fullShare} f : sProp 𝕄))
      ⊢ bigSep Finset.univ fun t => spare c M (R t) from bigSep_mono fun t _ => show _ ⊢ spare c M (R t) by
    unfold spare
    iintro H
    iexists f
    iexact H)
  iexact H'

/-- The rectangles together make the buffer, which reads through each what that one read. -/
theorem join_part (c : Dev nD) (M : Memref sig .tc .vmem s e) (R : T → Rect s) (h : Cuts M R) (f₀ : Buf (Elt F) (M.view.loc (c : Thread nD τ)))
    (v : (t : T) → (R t).shape.Idx → Elt F e) :
    (bigSep Finset.univ fun t => part c M (R t) (v t) : sProp 𝕄)
      ⊢ iprop(∃ f : Buf (Elt F) (M.view.loc (c : Thread nD τ)), ⌜∀ t, (M.access (R t)).read (Elt F) f = v t⌝ ∗ M.view.loc (c : Thread nD τ) ↦[M.view.set]{fullShare} f) := by
  unfold part
  iintro H
  ihave H := (BI.bigSep_exists_pi Finset.univ (fun (t : T) (f : Buf (Elt F) (M.view.loc (c : Thread nD τ))) =>
    (iprop(⌜(M.access (R t)).read (Elt F) f = v t⌝ ∗ M.view.loc (c : Thread nD τ) ↦[(M.access (R t)).set]{fullShare} f) : sProp 𝕄))) $$ H
  icases H with ⟨%fs, H⟩
  ihave H := (bigSep_pure_sep Finset.univ (fun t => (M.access (R t)).read (Elt F) (fs t) = v t)
    (fun t => (M.view.loc (c : Thread nD τ) ↦[(M.access (R t)).set]{fullShare} fs t : sProp 𝕄))) $$ H
  icases H with ⟨%hp, H⟩
  ihave H := (pointsTo_biUnion_join Finset.univ (fun t => (M.access (R t)).set) fs f₀ h.apart) $$ H
  icases H with ⟨%g, %hg, H⟩
  rw [h.cover]
  iexists g
  isplitr
  · ipureintro
    intro t
    rw [← hp t (Finset.mem_univ _)]
    exact View.read_congr fun i hi => hg t (Finset.mem_univ _) i hi
  · iexact H

end Part

end Cert.Moe

end
-- ==== Proof.Moe.Protocol.lean ====
/-
# `Protocol`: the handshake and the sixteen transfers

Four devices exchange eight slots each. A step `(b, k)` is the transfer of chunk `k` in phase `b` (`false` the first
exchange, `true` the second); the device at its other end is `peer (b, k) c`: `c` xor 1 or `c` xor 3, by phase and chunk,
the same map back and forth. Each device signals both partners' barrier once, which hands over the landing slots those partners
write into, and waits for both; every transfer then has a cell counting its departure and one counting its arrival. The
contents `val x c` that device `c` sends in step `x` are a parameter here.
-/
module

public import proofs.«01_k».proof.Proof.Moe.Parts

@[expose] public section

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Partners and steps -/

set_option backward.proofsInPublic true in
/-- The partner `c` xor 1 (`false`) or `c` xor 3 (`true`). -/
def mate (d : Bool) (c : Dev nD) : Dev nD :=
  if d then ⟨3 - c.val, by show _ < 4; omega⟩ else ⟨2 * (c.val / 2) + (1 - c.val % 2), by have : c.val < 4 := c.isLt; show _ < 4; omega⟩
theorem mate_mate (d : Bool) (c : Dev nD) : mate d (mate d c) = c := by revert d c; decide

/-- A step: which exchange, which chunk. -/
abbrev X : Type := Bool × Fin 4
/-- Which partner a step is with. -/
def side (x : X) : Bool := xor x.1 (decide (2 ≤ x.2.val))
def peer (x : X) (c : Dev nD) : Dev nD := mate (side x) c
theorem peer_peer (x : X) (c : Dev nD) : peer x (peer x c) = c := mate_mate _ _

/-- The order in which the steps are sent. -/
def order : List X := [(false, 0), (false, 2), (false, 1), (false, 3), (true, 0), (true, 2), (true, 1), (true, 3)]

/-! ## Buffers and cells -/

/-- The staging buffer of a phase, and its landing buffer. -/
abbrev outM : Bool → Memref sig .tc .vmem S4x128x512 .bf16
  | false => Memref.whole cc0_scratch0 | true => Memref.whole cc0_scratch2
abbrev inM : Bool → Memref sig .tc .vmem S4x128x512 .bf16
  | false => Memref.whole cc0_scratch1 | true => Memref.whole cc0_scratch3

theorem slot_inb (k : Fin 4) : ∀ a, (![k.val, 0, 0] : Fin 3 → Nat) a + S1x128x512.size a ≤ S4x128x512.size a := by revert k; decide
/-- Slot `k` of such a buffer. -/
abbrev rS (k : Fin 4) : Rect S4x128x512 := Rect.unit (s := S4x128x512) ![k.val, 0, 0] S1x128x512.size (slot_inb k)
/-- The slot as a transfer names it. -/
abbrev slotM (M : Memref sig .tc .vmem S4x128x512 .bf16) (k : Fin 4) : Memref sig .tc .vmem S128x512 .bf16 :=
  (M.slice (rS k) (fun _ => rfl)).squeeze S128x512 squeezes_S1x128x512_S128x512

/-- A transfer's two counters: departures (`false`), arrivals (`true`). -/
abbrev XC : Type := Bool × X
set_option backward.proofsInPublic true in
def xsem (y : XC) : DmaSem sig := ⟨5 + 8 * y.1.toNat + 4 * y.2.1.toNat + y.2.2.val, by
  have h1 := Bool.toNat_le y.1; have h2 := Bool.toNat_le y.2.1; have h3 := y.2.2.isLt
  show _ < 21; omega⟩
/-- Which counter a semaphore is. -/
def which (q : DmaSem sig) : Option XC :=
  if q.val < 5 then none else some (decide (13 ≤ q.val), decide (4 ≤ (q.val - 5) % 8), ⟨(q.val - 5) % 4, Nat.mod_lt _ (by decide)⟩)
theorem which_xsem (y : XC) : which (xsem y) = some y := by revert y; decide

/-- A device's cells: its barrier (`none`) and its sixteen transfer counters. -/
abbrev Y : Type := Option XC
abbrev csem : Y → SemLoc sig | none => .reg barrier0 | some y => .dma (xsem y)
abbrev cell (c : Dev nD) (y : Y) : GSem nD τ sig := ((c : Thread nD τ), csem y)
abbrev barCell (c : Dev nD) : GSem nD τ sig := cell c none
abbrev goneCell (x : X) (c : Dev nD) : GSem nD τ sig := cell c (some (false, x))
abbrev hereCell (x : X) (c : Dev nD) : GSem nD τ sig := cell c (some (true, x))

/-- What a slot's transfer counts for. -/
abbrev N : ℕ := (slotM (inM false) 0).view.dmaCredit
theorem N_pos : 0 < N := View.dmaCredit_pos _ (by decide)
theorem N_in (b : Bool) (k : Fin 4) : (slotM (inM b) k).view.dmaCredit = N := by cases b <;> rfl
theorem N_out (b : Bool) (k : Fin 4) : (slotM (outM b) k).view.dmaCredit = N := by cases b <;> rfl

/-! ## The schedule -/

variable (val : X → Dev nD → Vec F S1x128x512 .bf16)

/-- The landing slots of `d`'s partner on side `e` that `d` writes into. -/
def landing (e : Bool) (c : Dev nD) : sProp 𝕄 := bigSep (Finset.univ.filter fun x : X => side x = e) fun x => spare c (inM x.1) (rS x.2)

instance landing_storable (e : Bool) (c : Dev nD) : BI.Storable (upEmb : UEmb _ 𝕄) (landing (F := F) e c) := by unfold landing; infer_instance

/-- What a counter's one duty hands over: the departed slot back, or the landed slot. -/
def parcel (y : XC) (c : Dev nD) : sProp 𝕄 :=
  if y.1 then part c (inM y.2.1) (rS y.2.2) (val y.2 (peer y.2 c)) else part c (outM y.2.1) (rS y.2.2) (val y.2 c)

instance parcel_storable (y : XC) (c : Dev nD) : BI.Storable (upEmb : UEmb _ 𝕄) (parcel val y c) := by
  unfold parcel; split <;> infer_instance

def duty (sm : SemLoc sig) : Finset Bool :=
  match sm with
  | .reg _ => Finset.univ
  | .dma q => if (which q).isSome then {false} else ∅

def owedPay (sm : SemLoc sig) (c : Dev nD) (d : Bool) : sProp 𝕄 :=
  match sm with
  | .reg _ => landing d (mate d c)
  | .dma q => match which q with | some y => parcel val y c | none => iprop(emp)

instance owedPay_storable (sm : SemLoc sig) (c : Dev nD) (d : Bool) : BI.Storable (upEmb : UEmb _ 𝕄) (owedPay val sm c d) := by
  unfold owedPay
  split
  · infer_instance
  · split <;> infer_instance

def sched : Rounds.Schedule (GSem nD τ sig) Bool 𝕄 where
  duties g r := if r = 0 ∧ g.1.2 = .tc then duty g.2 else ∅
  unitless _ := False
  amount g _ _ := match g.2 with | .reg _ => 1 | .dma _ => N
  payload g _ d := owedPay val g.2 g.1.1 d
  amount_pos g _ _ _ := by
    rcases g with ⟨_, sm⟩
    cases sm
    · exact Nat.one_pos
    · exact N_pos

instance sched_storable (g : GSem nD τ sig) (r : ℕ) (d : Bool) : BI.Storable (upEmb : UEmb _ 𝕄) ((sched val).payload g r d) :=
  owedPay_storable val g.2 g.1.1 d

theorem duties_bar (c : Dev nD) : (sched val).duties (barCell c) 0 = Finset.univ := by
  dsimp only [sched]; rw [if_pos ⟨rfl, rfl⟩]; rfl
theorem duties_counter (y : XC) (c : Dev nD) : (sched val).duties (cell c (some y)) 0 = {false} := by
  dsimp only [sched]; rw [if_pos ⟨rfl, rfl⟩]
  unfold duty
  simp only [which_xsem]
  rfl
theorem duties_later (g : GSem nD τ sig) : ∀ r, 1 ≤ r → (sched val).duties g r = ∅ :=
  fun r hr => if_neg fun h => by omega

theorem amount_bar (c : Dev nD) (d : Bool) : (sched val).amount (barCell c) 0 d = 1 := rfl
theorem amount_counter (y : XC) (c : Dev nD) (d : Bool) : (sched val).amount (cell c (some y)) 0 d = N := rfl
theorem expect_bar (c : Dev nD) : (sched val).expect (barCell c) 0 = 2 := by
  unfold Schedule.expect Schedule.amountOf
  rw [duties_bar, Finset.sum_congr rfl fun d _ => amount_bar val c d]; rfl
theorem expect_counter (y : XC) (c : Dev nD) : (sched val).expect (cell c (some y)) 0 = N := by
  unfold Schedule.expect Schedule.amountOf; rw [duties_counter, Finset.sum_singleton, amount_counter]

theorem payload_bar (c : Dev nD) (d : Bool) : (sched val).payload (barCell c) 0 d = landing d (mate d c) := rfl
theorem payload_counter (y : XC) (c : Dev nD) (d : Bool) : (sched val).payload (cell c (some y)) 0 d = parcel val y c := by
  show owedPay val (.dma (xsem y)) c d = _
  unfold owedPay
  simp only [which_xsem]

theorem rest_bar (c : Dev nD) : bigSep ((sched val).duties (barCell c) 0 \ ∅) (fun d => (sched val).payload (barCell c) 0 d)
    = iprop(landing false (mate false c) ∗ landing true (mate true c)) := by
  rw [Finset.sdiff_empty, duties_bar, bigSep_univ_eq_bigSepL [false, true] (by decide) (by decide), bigSepL_cons_cons, bigSepL_singleton,
    payload_bar, payload_bar]
  rfl
theorem rest_counter (y : XC) (c : Dev nD) :
    bigSep ((sched val).duties (cell c (some y)) 0 \ ∅) (fun d => (sched val).payload (cell c (some y)) 0 d) = parcel val y c := by
  rw [Finset.sdiff_empty, duties_counter, bigSep_singleton, payload_counter]

/-! ## Dues and levels -/

/-- What device `c` owes for a list of steps still to be sent: each arrival at its peer. -/
def dues (c : Dev nD) : List X → CellTallies nD τ sig Unit
  | [] => 0
  | x :: l => dues c l + tallyAt (hereCell x (peer x c)) () N

/-- What it owes before its second signal, and at launch. -/
def dues₁ (c : Dev nD) : CellTallies nD τ sig Unit := dues c order + tallyAt (barCell (mate true c)) () 1
def dues₀ (c : Dev nD) : CellTallies nD τ sig Unit := dues₁ c + tallyAt (barCell (mate false c)) () 1

def L (g : GSem nD τ sig) : Finset Unit := if g.1.2 = .tc then {()} else ∅
/-- Staging and departures 0, the barrier 1, first arrivals 2, second arrivals 3. -/
def level (sm : SemLoc sig) : ℕ :=
  match sm with
  | .reg _ => 1
  | .dma q => match which q with | some (true, b, _) => 2 + b.toNat | _ => 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

theorem level_here (x : X) : level (csem (some (true, x))) = 2 + x.1.toNat := by
  unfold level; simp only [csem, which_xsem]
theorem level_gone (x : X) : level (csem (some (false, x))) = 0 := by
  unfold level; simp only [csem, which_xsem]

theorem due_pos {O : CellTallies nD τ sig Unit} {g g' : GSem nD τ sig} {u : Unit} {n : ℕ} (h : 0 < (O + tallyAt g' () n) g u) :
    0 < O g u ∨ g = g' := by
  rw [Pi.add_apply, Finsupp.add_apply, tallyAt_apply] at h
  by_cases hg : g = g'
  · exact Or.inr hg
  · rw [if_neg (fun h' => hg h'.1), Nat.add_zero] at h
    exact Or.inl h

theorem dues_pos {c : Dev nD} {g : GSem nD τ sig} {u : Unit} : ∀ {l : List X}, 0 < dues c l g u → ∃ x ∈ l, g = hereCell x (peer x c)
  | [], h => by simp [dues] at h
  | x :: l, h => by
    rcases due_pos (O := dues c l) h with h | h
    · obtain ⟨y, hy, e⟩ := dues_pos h
      exact ⟨y, List.mem_cons_of_mem _ hy, e⟩
    · exact ⟨x, List.mem_cons_self, h⟩

theorem dues₀_pos {c : Dev nD} {g : GSem nD τ sig} {u : Unit} (h : 0 < dues₀ c g u) :
    (∃ x ∈ order, g = hereCell x (peer x c)) ∨ ∃ d, g = barCell (mate d c) := by
  rcases due_pos (O := dues₁ c) h with h | h
  · rcases due_pos (O := dues c order) h with h | h
    · exact Or.inl (dues_pos h)
    · exact Or.inr ⟨_, h⟩
  · exact Or.inr ⟨_, h⟩

/-- A device may wait on a cell below every arrival it still owes. -/
theorem mayWait_list (c : Dev nD) (sm : SemLoc sig) (l : List X) (h : ∀ x ∈ l, level sm < 2 + x.1.toNat) :
    (levAts L lv : sProp 𝕄) ⊢ MayWait (c : Thread nD τ) sm () (dues c l) :=
  MayOwe.of_cut (L := L) (lev := lv) (level sm) (fun p hp => by rw [Finset.mem_singleton.mp hp, L_tc]; exact Finset.mem_singleton_self _)
    (fun g u hg => by obtain ⟨x, -, rfl⟩ := dues_pos hg; exact Finset.mem_singleton_self _)
    (fun p hp => by rw [Finset.mem_singleton.mp hp]; exact le_refl _)
    (fun g u hg => by obtain ⟨x, hx, rfl⟩ := dues_pos hg; show _ < level _; rw [level_here]; exact h x hx)

/-- Before anything is sent, only a cell of level 0. -/
theorem mayWait_stage (c : Dev nD) (sm : SemLoc sig) (h : level sm = 0) (O : CellTallies nD τ sig Unit) (hO : O = dues₀ c ∨ O = 0) :
    (levAts L lv : sProp 𝕄) ⊢ MayWait (c : Thread nD τ) sm () O := by
  rcases hO with rfl | rfl
  · exact MayOwe.of_cut (L := L) (lev := lv) 0 (fun p hp => by rw [Finset.mem_singleton.mp hp, L_tc]; exact Finset.mem_singleton_self _)
      (fun g u hg => by rcases dues₀_pos hg with ⟨x, -, rfl⟩ | ⟨d, rfl⟩ <;> exact Finset.mem_singleton_self _)
      (fun p hp => by rw [Finset.mem_singleton.mp hp]; exact le_of_eq h)
      (fun g u hg => by
        rcases dues₀_pos hg with ⟨x, -, rfl⟩ | ⟨d, rfl⟩
        · show _ < level _; rw [level_here]; omega
        · exact Nat.one_pos)
  · rw [MayWait_zero]; iintro -; iempintro

end Cert.Moe

end
-- ==== Proof.Moe.Rules.lean ====
/-
# `Rules`: one rule per kind of effect of the exchange

Over the persistent knowledge `known K` (every cell's invariant, that every cell is at its first round, the levels): a signal
to a partner, the barrier wait, a step sent, its departure awaited, its arrival awaited.
-/
module

public import proofs.«01_k».proof.Proof.Moe.Protocol

@[expose] public section

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (val : X → Dev nD → Vec F S1x128x512 .bf16) (K : Dev nD × Y → ℕ)

/-- What every device knows of every cell. -/
def known : sProp 𝕄 :=
  iprop((bigSep Finset.univ fun p : Dev nD × Y => cellInv ER (sched val) (K p) (cell p.1 p.2))
    ∗ (bigSep Finset.univ fun p : Dev nD × Y => reached ER (cell p.1 p.2) 0) ∗ levAts L lv)

instance known_persistent : BI.Persistent (known (F := F) val K) := by unfold known; infer_instance

theorem known_inv (p : Dev nD × Y) : (known val K : sProp 𝕄) ⊢ cellInv ER (sched val) (K p) (cell p.1 p.2) := by
  unfold known
  iintro ⟨H, -, -⟩
  iapply (show (bigSep Finset.univ fun p : Dev nD × Y => (cellInv ER (sched val) (K p) (cell p.1 p.2) : sProp 𝕄)) ⊢ cellInv ER (sched val) (K p) (cell p.1 p.2)
    from bigSep_elim (Finset.mem_univ p))
  iexact H
theorem known_reached (p : Dev nD × Y) : (known val K : sProp 𝕄) ⊢ reached ER (cell p.1 p.2) 0 := by
  unfold known
  iintro ⟨-, H, -⟩
  iapply (show (bigSep Finset.univ fun p : Dev nD × Y => (reached ER (cell p.1 p.2) 0 : sProp 𝕄)) ⊢ reached ER (cell p.1 p.2) 0
    from bigSep_elim (Finset.mem_univ p))
  iexact H
theorem known_levels : (known val K : sProp 𝕄) ⊢ levAts L lv := by
  unfold known; iintro ⟨-, -, H⟩; iexact H

/-- The device owes the arrivals of the steps in the list (whatever it has waited on). -/
def owing (c : Dev nD) (l : List X) : sProp 𝕄 := iprop(∃ W, owes (c : Thread nD τ) (dues c l) W)

/-! ## A transferred slot -/

theorem slot_set (M : Memref sig .tc .vmem S4x128x512 .bf16) (k : Fin 4) : (slotM M k).view.set = (M.access (rS k)).set :=
  View.set_reshape (v := M.access (rS k)) _

/-- What lands in a slot is, row for row, what the source slot read. -/
theorem landed_reads (M M' : Memref sig .tc .vmem S4x128x512 .bf16) (k : Fin 4) (c c' : Dev nD)
    (fd : Buf (Elt F) ((slotM M' k).view.loc (c' : Thread nD τ))) (fs : Buf (Elt F) ((slotM M k).view.loc (c : Thread nD τ))) :
    (M'.access (rS k)).read (Elt F) ((slotM M' k).view.write (Elt F) fd ((slotM M k).view.read (Elt F) fs) Finset.univ)
      = (M.access (rS k)).read (Elt F) fs := by
  have h : S128x512.numel = (rS k).shape.numel := squeezes_S1x128x512_S128x512.numel_eq
  refine (congrArg ((M'.access (rS k)).read (Elt F))
    (View.write_reshape_univ (v := M'.access (rS k)) h fd ((slotM M k).view.read (Elt F) fs))).trans ?_
  rw [View.read_write_univ (v := M'.access (rS k))]
  funext x
  show (M.access (rS k)).read (Elt F) fs ((Shape.reshapeEquiv h) ((Shape.reshapeEquiv h).symm x)) = _
  rw [Equiv.apply_symm_apply]

section Step
variable (x : X) (l : List X) (c : Dev nD) {α : Type} {Q : α → sProp (MT nD τ sig Unit (Elt F) ℕ UU ℕ)}
  {k : PUnit → Prog (TpuEff nD τ sig (Elt F) Λ₀ .tc) α}

/-- What device `c` needs to send step `x`, besides the slot's contents: the landing slot at its peer and the two duties. -/
def ticket : sProp 𝕄 :=
  iprop(spare (peer x c) (inM x.1) (rS x.2) ∗ dutyTok ER (goneCell x c) 0 false ∗ dutyTok ER (hereCell x (peer x c)) 0 false)

/-- Step `x` sent: the slot and the landing slot go, the right to await the departure comes. -/
theorem send_step {src dst : Memref sig .tc .vmem S128x512 .bf16} {n : Dev nD} {sS sR : DmaSem sig}
    {hsc : dst.view.ref.isScScratch = false} {hsrc : src.view.WordExact} {hdst : dst.view.WordExact}
    {hsem : DmaTarget.Typed .vmem (SemLoc.dma sR) (.remote (Dev.tc n : Thread nD τ) dst (.dma sS) hsc)}
    (hs : src = slotM (outM x.1) x.2) (hd : dst = slotM (inM x.1) x.2) (hn : n = peer x c) (hS : sS = xsem (false, x)) (hR : sR = xsem (true, x)) :
    (known val K) ⊢ iprop(part c (outM x.1) (rS x.2) (val x c) -∗ ticket x c -∗ owing c (x :: l)
      -∗ (cred (tallyAt (goneCell x c) () N) -∗ owing c l -∗ run c (k ⟨⟩) Q)
          -∗ run c (.op (.enqueueDma src (.remote (Dev.tc n : Thread nD τ) dst (.dma sS) hsc) (.dma sR) hsrc hdst hsem) k) Q) := by
  subst hs hd hn hS hR
  unfold part ticket spare owing
  iintro #HK ⟨%fs, %hfs, Hs⟩ ⟨⟨%fd, Hd⟩, Ht1, Ht2⟩ ⟨%W, Ho⟩ Hk
  rw [← slot_set (outM x.1) x.2, ← slot_set (inM x.1) x.2]
  iapply (Rounds.wp_send_pointsTo 𝒱₀ ER (sched val) (c : Thread nD τ) none (κ₁ := K (c, some (false, x))) (κ₂ := K (peer x c, some (true, x)))
      (src := slotM (outM x.1) x.2) (dst := slotM (inM x.1) x.2) (c' := (peer x c : Thread nD τ)) (sS := .dma (xsem (false, x))) (sem := .dma (xsem (true, x)))
      (r₁ := 0) (r₂ := 0) (d₁ := false) (d₂ := false) (fs := fs) (fd := fd)
      (by rw [duties_counter]; exact Finset.mem_singleton_self _) (by rw [duties_counter]; exact Finset.mem_singleton_self _)
      () () N (N_in x.1 x.2) (amount_counter val _ c false) (amount_counter val _ (peer x c) false) (dues c l) rfl (W := W)
      (by
        rw [payload_counter]; unfold parcel part; rw [if_neg Bool.false_ne_true, slot_set]
        iintro H; iexists fs
        isplitr; · ipureintro; exact hfs
        iexact H)
      (by
        rw [payload_counter]; unfold parcel part; rw [if_pos rfl, slot_set]
        iintro H; iexists _
        isplitr
        · ipureintro; rw [landed_reads (outM x.1) (inM x.1) x.2 c (peer x c) fd fs, hfs, peer_peer]
        iexact H)) $$ [Hs Hd Ht1 Ht2 Ho]
  · isplitr; · iapply (known_inv val K (c, some (false, x))); iexact HK
    isplitr; · iapply (known_inv val K (peer x c, some (true, x))); iexact HK
    isplitl [Hs]; · iexact Hs
    isplitl [Hd]; · iexact Hd
    isplitl [Ho]; · iexact Ho
    isplitl [Ht1]; · iexact Ht1
    isplitr; · iapply (known_reached val K (c, some (false, x))); iexact HK
    isplitl [Ht2]; · iexact Ht2
    iapply (known_reached val K (peer x c, some (true, x))); iexact HK
  iintro ⟨Hc, Ho⟩
  iapply Hk $$ Hc
  iexists W; iexact Ho

/-- A counter awaited: the device, owing nothing at or below its level, gets the counter's parcel and is past its one round. -/
theorem await (y : XC) {src dst : Memref sig .tc .vmem S128x512 .bf16} {sS : DmaSem sig} {hsrc : src.view.WordExact} {hdst : dst.view.WordExact}
    (hS : sS = xsem y) (hN : dst.view.dmaCredit = N) (hl : ∀ z ∈ l, level (csem (some y)) < 2 + z.1.toNat) :
    (known val K) ⊢ iprop(cred (tallyAt (cell c (some y)) () N) -∗ atPos ER (cell c (some y)) 0 ∅ 0 -∗ owing c l
      -∗ (atPos ER (cell c (some y)) (0 + 1) ∅ 0 -∗ parcel val y c -∗ owing c l -∗ run c (k ⟨⟩) Q)
          -∗ run c (.op (.waitDma2 sS src dst hsrc hdst) k) Q) := by
  subst hS
  unfold owing
  iintro #HK Hc Ha ⟨%W, Ho⟩ Hk
  iapply (Rounds.wp_wait_rest_token 𝒱₀ ER (sched val) (c : Thread nD τ) none (κ := K (c, some y))
      (wpE_waitDma2_eq (src := src) (dst := dst) (hsrc := hsrc) (hdst := hdst) 𝒱₀ (c : Thread nD τ) none Set.univ) (Set.mem_univ _) () (O := dues c l) (W := W) (R := 0) (m := 0) (T := ∅)
      (by rw [hN, expect_counter, Nat.zero_add])) $$ [Hc Ha Ho]
  · rw [hN]
    isplitr; · iapply (known_inv val K (c, some y)); iexact HK
    isplitl [Hc]; · iexact Hc
    isplitl [Ho]; · iexact Ho
    isplitr; · iapply (mayWait_list (F := F) c (csem (some y)) l hl); iapply (known_levels val K); iexact HK
    iexact Ha
  iintro ⟨Ho, Ha, -, Hp⟩
  ihave Hp := (Entails.of_eq (rest_counter val y c)) $$ Hp
  iapply Hk $$ Ha Hp
  iexists _; iexact Ho

/-- The same, for the step that stands at place `i` of the kernel's order. -/
theorem send_nth (i : ℕ) {src dst : Memref sig .tc .vmem S128x512 .bf16} {n : Dev nD} {sS sR : DmaSem sig}
    {hsc : dst.view.ref.isScScratch = false} {hsrc : src.view.WordExact} {hdst : dst.view.WordExact}
    {hsem : DmaTarget.Typed .vmem (SemLoc.dma sR) (.remote (Dev.tc n : Thread nD τ) dst (.dma sS) hsc)} (hi : order.drop i = x :: order.drop (i + 1))
    (hs : src = slotM (outM x.1) x.2) (hd : dst = slotM (inM x.1) x.2) (hn : n = peer x c) (hS : sS = xsem (false, x)) (hR : sR = xsem (true, x)) :
    (known val K) ⊢ iprop(part c (outM x.1) (rS x.2) (val x c) -∗ ticket x c -∗ owing c (order.drop i)
      -∗ (cred (tallyAt (goneCell x c) () N) -∗ owing c (order.drop (i + 1)) -∗ run c (k ⟨⟩) Q)
          -∗ run c (.op (.enqueueDma src (.remote (Dev.tc n : Thread nD τ) dst (.dma sS) hsc) (.dma sR) hsrc hdst hsem) k) Q) := by
  rw [hi]
  exact send_step val K x (order.drop (i + 1)) c hs hd hn hS hR

/-- The departure awaited gives the slot back. -/
theorem await_gone {src dst : Memref sig .tc .vmem S128x512 .bf16} {sS : DmaSem sig} {hsrc : src.view.WordExact} {hdst : dst.view.WordExact}
    (hS : sS = xsem (false, x)) (hN : dst.view.dmaCredit = N) :
    (known val K) ⊢ iprop(cred (tallyAt (goneCell x c) () N) -∗ atPos ER (goneCell x c) 0 ∅ 0 -∗ owing c l
      -∗ (atPos ER (goneCell x c) (0 + 1) ∅ 0 -∗ part c (outM x.1) (rS x.2) (val x c) -∗ owing c l -∗ run c (k ⟨⟩) Q)
          -∗ run c (.op (.waitDma2 sS src dst hsrc hdst) k) Q) :=
  await val K l c (false, x) hS hN fun z _ => by rw [level_gone]; omega

/-- The arrival awaited gives the landed slot, at what the peer sent. -/
theorem await_here {src dst : Memref sig .tc .vmem S128x512 .bf16} {sS : DmaSem sig} {hsrc : src.view.WordExact} {hdst : dst.view.WordExact}
    (hS : sS = xsem (true, x)) (hN : dst.view.dmaCredit = N) (hl : ∀ z ∈ l, x.1.toNat < z.1.toNat) :
    (known val K) ⊢ iprop(cred (tallyAt (hereCell x c) () N) -∗ atPos ER (hereCell x c) 0 ∅ 0 -∗ owing c l
      -∗ (atPos ER (hereCell x c) (0 + 1) ∅ 0 -∗ part c (inM x.1) (rS x.2) (val x (peer x c)) -∗ owing c l -∗ run c (k ⟨⟩) Q)
          -∗ run c (.op (.waitDma2 sS src dst hsrc hdst) k) Q) :=
  await val K l c (true, x) hS hN fun z hz => by rw [level_here]; have := hl z hz; omega

end Step

end Cert.Moe

end
-- ==== Proof.Moe.Values.lean ====
/-
# `Values`: what the kernel computes, named

A device's four chunks of its own contribution, what it sends in each step, and the rows it ends with: the contribution, plus
what its first partner sent, plus what its second partner sent.
-/
module

public import proofs.«01_k».proof.Proof.Moe.Rules
public import proofs.«01_k».proof.Proof.Gen.KernelIdeal.Skeleton

@[expose] public section

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## A device's inputs, as its kernel finds them -/

def inX (c : Dev nD) : (cc0_stg0_0 : Ref sig .tc).ty.Contents (Elt F) := (win0_0.blk (0 : Fin 1)).view.read (Elt F) ((s₀ m ρ).mem ((c : Thread nD τ).loc main_arg0))
def inR (c : Dev nD) : (cc0_stg1_0 : Ref sig .tc).ty.Contents (Elt F) := (win0_1.blk (0 : Fin 1)).view.read (Elt F) ((s₀ m ρ).mem ((c : Thread nD τ).loc main_arg1))
def inI (c : Dev nD) : (cc0_stg2_0 : Ref sig .tc).ty.Contents (Elt F) := (win0_2.blk (0 : Fin 1)).view.read (Elt F) ((s₀ m ρ).mem ((c : Thread nD τ).loc main_arg2))
def inE (c : Dev nD) : (cc0_stg3_0 : Ref sig .tc).ty.Contents (Elt F) := (win0_3.blk (0 : Fin 1)).view.read (Elt F) ((s₀ m ρ).mem ((c : Thread nD τ).loc main_arg3))

theorem col_inb (j : Fin 2) : ∀ a, (![0, j.val] : Fin 2 → Nat) a + S512x1.size a ≤ S512x2.size a := by revert j; decide
theorem exp_inb (j : Fin 2) : ∀ a, (![j.val, 0, 0] : Fin 3 → Nat) a + S1x256x512.size a ≤ S2x256x512.size a := by revert j; decide
theorem rows_inb (k : Fin 4) : ∀ a, (![128 * k.val, 0] : Fin 2 → Nat) a + S128x512.size a ≤ S512x512.size a := by revert k; decide

/-- One column of the chosen experts, one expert's weights, one chunk of rows of the result. -/
abbrev rI (j : Fin 2) : Rect S512x2 := Rect.unit (s := S512x2) ![0, j.val] S512x1.size (col_inb j)
abbrev rE (j : Fin 2) : Rect S2x256x512 := Rect.unit (s := S2x256x512) ![j.val, 0, 0] S1x256x512.size (exp_inb j)
abbrev rO (k : Fin 4) : Rect S512x512 := Rect.unit (s := S512x512) ![128 * k.val, 0] S128x512.size (rows_inb k)

abbrev xM : Memref sig .tc .vmem S512x256 .f32 := Memref.whole cc0_stg0_0
abbrev rM : Memref sig .tc .vmem S256x8 .f32 := Memref.whole cc0_stg1_0
abbrev iM : Memref sig .tc .vmem S512x2 .i32 := Memref.whole cc0_stg2_0
abbrev eM : Memref sig .tc .vmem S2x256x512 .f32 := Memref.whole cc0_stg3_0
abbrev oM : Memref sig .tc .vmem S512x512 .f32 := Memref.whole cc0_stg4_0

def pick (c : Dev nD) (j : Fin 2) : Vec F S512x1 .i32 := (iM.access (rI j)).read (Elt F) (inI m ρ c)
def expert (c : Dev nD) (j : Fin 2) : Vec F S1x256x512 .f32 := (eM.access (rE j)).read (Elt F) (inE m ρ c)

/-! ## The contribution of a device -/

/-- Its place on the mesh as the kernel computes it. -/
def place (c : Dev nD) : BitVec 32 := Scalar.remsi (Scalar.divsi (Dev.word c) 1#32) 4#32

abbrev xs (c : Dev nD) : FVec F S512x256 .f32 := k0_pay1 (inX m ρ c)
abbrev probs (c : Dev nD) : FVec F S512x8 .f32 := k0_pay2 (inX m ρ c) (inR m ρ c)
abbrev lane : IVec S512x8 32 := iota .tc S512x8 32 [1] iota_S512x8_d1_w32
abbrev chosen (c : Dev nD) : IVec S512x8 1 := k0_pay3 (pick m ρ c 0) (pick m ρ c 1)

/-- The inputs weighted for its two experts, and the two experts' weights. -/
def actA (c : Dev nD) : FVec F S512x256 .bf16 := k0_pay6 (place c) (xs m ρ c) (probs m ρ c) lane (chosen m ρ c) k0_pay4
def actB (c : Dev nD) : FVec F S512x256 .bf16 := k0_pay7 (place c) (xs m ρ c) (probs m ρ c) lane (chosen m ρ c) k0_pay4
def wgtA (c : Dev nD) : FVec F S256x512 .bf16 := k0_pay8 (expert m ρ c 0)
def wgtB (c : Dev nD) : FVec F S256x512 .bf16 := k0_pay9 (expert m ρ c 1)

/-- The rows of its contribution, chunk by chunk. -/
def own (c : Dev nD) : Fin 4 → Vec F S128x512 .f32
  | 0 => k0_pay10 (place c) (xs m ρ c) (probs m ρ c) lane (chosen m ρ c) k0_pay4 (expert m ρ c 0) (expert m ρ c 1)
  | 1 => k0_pay15 (actA m ρ c) (actB m ρ c) (wgtA m ρ c) (wgtB m ρ c)
  | 2 => k0_pay13 (actA m ρ c) (actB m ρ c) (wgtA m ρ c) (wgtB m ρ c)
  | 3 => k0_pay17 (actA m ρ c) (actB m ρ c) (wgtA m ρ c) (wgtB m ρ c)

/-! ## The exchange -/

/-- Rows put on the wire, and rows with a slot received added. -/
def pack (a : FVec F S128x512 .f32) : Vec F S1x128x512 .bf16 := shapeCast S1x128x512 (truncf .bf16 a bitsLt_bf16_f32) shapeCasts_S128x512_S1x128x512
def plus (a : Vec F S128x512 .f32) (b : Vec F S1x128x512 .bf16) : FVec F S128x512 .f32 := k0_pay20 a b

/-- The rows after the first exchange, and after the second. -/
def once (c : Dev nD) (k : Fin 4) : Vec F S128x512 .f32 := plus (own m ρ c k) (pack (own m ρ (peer (false, k) c) k))
def twice (c : Dev nD) (k : Fin 4) : Vec F S128x512 .f32 := plus (once m ρ c k) (pack (once m ρ (peer (true, k) c) k))

/-- What device `c` sends in a step. -/
def val (x : X) (c : Dev nD) : Vec F S1x128x512 .bf16 := pack (if x.1 then once m ρ c x.2 else own m ρ c x.2)

theorem rows_cut : Cuts oM rO := Cuts.of_rects oM rO
  (fun x => by
    have h0 : (x 0).val < 512 := (x 0).isLt
    refine ⟨⟨(x 0).val / 128, by omega⟩, ?_⟩
    rw [Rect.mem_set_unit]
    intro a
    fin_cases a
    · show 128 * ((x 0).val / 128) ≤ (x 0).val ∧ (x 0).val < 128 * ((x 0).val / 128) + 128
      omega
    · have h1 : (x 1).val < 512 := (x 1).isLt
      show 0 ≤ (x 1).val ∧ (x 1).val < 0 + 512
      omega)
  (fun t t' h => by
    rw [Finset.disjoint_left]
    intro x hx hx'
    rw [Rect.mem_set_unit] at hx hx'
    have h1 : 128 * t.val ≤ (x 0).val ∧ (x 0).val < 128 * t.val + 128 := hx 0
    have h2 : 128 * t'.val ≤ (x 0).val ∧ (x 0).val < 128 * t'.val + 128 := hx' 0
    exact h (Fin.ext (by omega)))

theorem slots_cut (b : Memref sig .tc .vmem S4x128x512 .bf16) : Cuts b rS := Cuts.of_rects b rS
  (fun x => by
    have h0 : (x 0).val < 4 := (x 0).isLt
    refine ⟨⟨(x 0).val, h0⟩, ?_⟩
    rw [Rect.mem_set_unit]
    intro a
    fin_cases a
    · show (x 0).val ≤ (x 0).val ∧ (x 0).val < (x 0).val + 1
      omega
    · have h1 : (x 1).val < 128 := (x 1).isLt
      show 0 ≤ (x 1).val ∧ (x 1).val < 0 + 128
      omega
    · have h1 : (x 2).val < 512 := (x 2).isLt
      show 0 ≤ (x 2).val ∧ (x 2).val < 0 + 512
      omega)
  (fun t t' h => by
    rw [Finset.disjoint_left]
    intro x hx hx'
    rw [Rect.mem_set_unit] at hx hx'
    have h1 : t.val ≤ (x 0).val ∧ (x 0).val < t.val + 1 := hx 0
    have h2 : t'.val ≤ (x 0).val ∧ (x 0).val < t'.val + 1 := hx' 0
    exact h (Fin.ext (by omega)))

/-- The rows two devices hold are the same array: the chunks put together. -/
def outAt (c : Dev nD) : (cc0_stg4_0 : Ref sig .tc).ty.Contents (Elt F) := fun x =>
  twice m ρ c ⟨(x 0).val / 128, by have : (x 0).val < 512 := (x 0).isLt; omega⟩
    (Fin.cons ⟨(x 0).val % 128, Nat.mod_lt _ (by decide)⟩ (Fin.cons (x 1) finZeroElim) : (rO 0).shape.Idx)

end Cert.Moe

end
-- ==== Proof.Moe.Parts1.lean ====
/-
# `Parts1`: the printed pieces of the kernel from the first send on

Each rule says what a piece takes and hands to the rest. A piece fills a slot and sends it, awaits a departure and an arrival,
or adds a received slot to its chunk of rows.
-/
module

public import proofs.«01_k».proof.Proof.Moe.Values

@[expose] public section

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A printed piece of the kernel on the buffers it is launched with. -/
abbrev onBufs {β : Type 1}
    (p : (arg0 : Memref sig .tc .vmem S512x256 .f32) → arg0.IsWhole → (arg1 : Memref sig .tc .vmem S256x8 .f32) → arg1.IsWhole
      → (arg2 : Memref sig .tc .vmem S512x2 .i32) → arg2.IsWhole → (arg3 : Memref sig .tc .vmem S2x256x512 .f32) → arg3.IsWhole
      → (arg4 : Memref sig .tc .vmem S512x512 .f32) → arg4.IsWhole → (arg5 : Memref sig .tc .vmem S4x128x512 .bf16) → arg5.IsWhole
      → (arg6 : Memref sig .tc .vmem S4x128x512 .bf16) → arg6.IsWhole → (arg7 : Memref sig .tc .vmem S4x128x512 .bf16) → arg7.IsWhole
      → (arg8 : Memref sig .tc .vmem S4x128x512 .bf16) → arg8.IsWhole → DmaSems sig S8 → DmaSems sig S8 → β) : β :=
  p xM (Memref.isWhole_whole _) rM (Memref.isWhole_whole _) iM (Memref.isWhole_whole _) eM (Memref.isWhole_whole _)
    oM (Memref.isWhole_whole _) (outM false) (Memref.isWhole_whole _) (inM false) (Memref.isWhole_whole _)
    (outM true) (Memref.isWhole_whole _) (inM true) (Memref.isWhole_whole _) cc0_scratch4 cc0_scratch5

/-! ## The device chains -/

theorem dev1_eq (c : Dev nD) : (⟨k0_dev1 c, k0_dev1_lt c⟩ : Dev nD) = mate false c := by revert c; decide
theorem dev2_eq (c : Dev nD) : (⟨k0_dev2 c, k0_dev2_lt c⟩ : Dev nD) = mate true c := by revert c; decide
theorem dev3_eq (c : Dev nD) : (⟨k0_dev3 c, k0_dev3_lt c⟩ : Dev nD) = peer (false, 0) c := by revert c; decide
theorem dev4_eq (c : Dev nD) : (⟨k0_dev4 c, k0_dev4_lt c⟩ : Dev nD) = peer (false, 2) c := by revert c; decide
theorem dev5_eq (c : Dev nD) : (⟨k0_dev5 c, k0_dev5_lt c⟩ : Dev nD) = peer (false, 1) c := by revert c; decide
theorem dev6_eq (c : Dev nD) : (⟨k0_dev6 c, k0_dev6_lt c⟩ : Dev nD) = peer (false, 3) c := by revert c; decide
theorem dev7_eq (c : Dev nD) : (⟨k0_dev7 c, k0_dev7_lt c⟩ : Dev nD) = peer (true, 0) c := by revert c; decide
theorem dev8_eq (c : Dev nD) : (⟨k0_dev8 c, k0_dev8_lt c⟩ : Dev nD) = peer (true, 2) c := by revert c; decide
theorem dev9_eq (c : Dev nD) : (⟨k0_dev9 c, k0_dev9_lt c⟩ : Dev nD) = peer (true, 1) c := by revert c; decide
theorem dev10_eq (c : Dev nD) : (⟨k0_dev10 c, k0_dev10_lt c⟩ : Dev nD) = peer (true, 3) c := by revert c; decide

section Moves
variable (c : Dev nD) {α : Type} {Q : α → sProp (MT nD τ sig Unit (Elt F) ℕ UU ℕ)} {s : Shape} {e : EltTy}

theorem done (v : α) : (Q v) ⊢ run c (.ret v) Q := by
  unfold run
  rw [wp_ret]
  iintro H
  imodintro
  iexact H

theorem done_eq {v w : α} (h : v = w) : (Q w) ⊢ run c (.ret v) Q := by subst h; exact done c v

/-- A rectangle is read (the value unused) and stored over. -/
theorem fill (M : Memref sig .tc .vmem s e) (r : Rect s) (w : r.shape.Idx → Elt F e) {hl : M.view.LoadsAt r.toLoadRect}
    {hx : (M.access r).Stores Finset.univ} {hm : (Finset.univ : Finset r.shape.Idx) = Finset.univ ∨ ∀ a, r.stride a = 1}
    {k : PUnit → Prog (TpuEff nD τ sig (Elt F) Λ₀ .tc) α} :
    (spare c M r) ⊢ iprop((part c M r w -∗ run c (k ⟨⟩) Q)
      -∗ run c (.op (.load M r.toLoadRect hl) fun _ => .op (.store M r w Finset.univ hx hm) k) Q) := by
  iintro H Hk
  iapply (load_spare c M r) $$ H
  iintro %_ H
  iapply (store_spare c M r w) $$ H
  iexact Hk

/-- A received slot is added to its chunk of rows. -/
theorem absorb (b : Bool) (t : Fin 4) (a u : Vec F S128x512 .f32) (w : Vec F S1x128x512 .bf16) (hu : plus a w = u)
    {h1 h3 : oM.view.LoadsAt (rO t).toLoadRect} {h2 : (inM b).view.LoadsAt (rS t).toLoadRect}
    {hx : (oM.access (rO t)).Stores Finset.univ} {hm : (Finset.univ : Finset (rO t).shape.Idx) = Finset.univ ∨ ∀ a, (rO t).stride a = 1}
    {k : Vec F S128x512 .f32 → Vec F S1x128x512 .bf16 → PUnit → Prog (TpuEff nD τ sig (Elt F) Λ₀ .tc) α} :
    (part c oM (rO t) a) ⊢ iprop(part c (inM b) (rS t) w
      -∗ (part c oM (rO t) u -∗ part c (inM b) (rS t) w -∗ run c (k a w ⟨⟩) Q)
      -∗ run c (.op (.load oM (rO t).toLoadRect h1) fun a' => .op (.load (inM b) (rS t).toLoadRect h2) fun w' =>
          .op (.load oM (rO t).toLoadRect h3) fun _ => .op (.store oM (rO t) (plus a' w') Finset.univ hx hm) (k a' w')) Q) := by
  subst hu
  iintro Ho Hi Hk
  iapply (load_part c oM (rO t) a) $$ Ho
  iintro Ho
  iapply (load_part c (inM b) (rS t) w) $$ Hi
  iintro Hi
  iapply (load_part c oM (rO t) a) $$ Ho
  iintro Ho
  iapply (store_part c oM (rO t) a (plus a w)) $$ Ho
  iintro Ho
  iapply Hk $$ Ho Hi

end Moves

variable (m : (ℓ : Loc nD τ sig) → Buf (Elt F) ℓ) (ρ : Dev nD → PrngReg) (K : Dev nD × Y → ℕ) (c : Dev nD)

/-- Step 0 of the first exchange sent, chunk 2 computed. -/
theorem run_part3 (v3 v4 : BitVec 32) {Q : PUnit → sProp (MT nD τ sig Unit (Elt F) ℕ UU ℕ)} :
    (known (val m ρ) K) ⊢ iprop(spare c (outM false) (rS 0) -∗ spare c (outM false) (rS 2) -∗ spare c oM (rO 2) -∗ ticket (false, 0) c -∗ owing c (order.drop 0)
      -∗ (part c (outM false) (rS 2) (val m ρ (false, 2) c) -∗ part c oM (rO 2) (own m ρ c 2) -∗ cred (tallyAt (goneCell (false, 0) c) () N) -∗ owing c (order.drop 1) -∗ Q ⟨⟩)
      -∗ run c (onBufs (k0_part3 (F := F)) c v3 v4 (actA m ρ c) (actB m ρ c) (wgtA m ρ c) (wgtB m ρ c)
          (k0_pay11 (place c) (xs m ρ c) (probs m ρ c) lane (chosen m ρ c) k0_pay4 (expert m ρ c 0) (expert m ρ c 1))) Q) := by
  unfold onBufs
  rw [k0_part3_eq_skeleton]; unfold k0_part3_skel
  simp only [Prog.lift, Prog.bind_op, Prog.bind_ret, Prog.pure_eq_ret, Prog.bind_assoc]
  iintro #HK Hs0 Hs2 Ho2 Ht0 Hw Hk
  iapply (fill c (outM false) (rS 0) (val m ρ (false, 0) c)) $$ Hs0
  iintro Hs0
  iapply (send_nth (val m ρ) K (false, 0) c 0 rfl rfl rfl (dev3_eq c) rfl rfl) $$ HK Hs0 Ht0 Hw
  iintro Hc0 Hw
  iapply (fill c oM (rO 2) (own m ρ c 2)) $$ Ho2
  iintro Ho2
  iapply (fill c (outM false) (rS 2) (val m ρ (false, 2) c)) $$ Hs2
  iintro Hs2
  iapply (done c)
  iapply Hk $$ Hs2 Ho2 Hc0 Hw

/-- Steps 2 and 1 sent, chunks 1 and 3 computed. -/
theorem run_part4 (v3 : BitVec 32) {Q : FVec F S128x512 .bf16 → sProp (MT nD τ sig Unit (Elt F) ℕ UU ℕ)} :
    (known (val m ρ) K) ⊢ iprop(part c (outM false) (rS 2) (val m ρ (false, 2) c) -∗ spare c (outM false) (rS 1) -∗ spare c oM (rO 1) -∗ spare c oM (rO 3) -∗ ticket (false, 2) c -∗ ticket (false, 1) c -∗ owing c (order.drop 1)
      -∗ (part c oM (rO 1) (own m ρ c 1) -∗ part c oM (rO 3) (own m ρ c 3) -∗ cred (tallyAt (goneCell (false, 2) c) () N) -∗ cred (tallyAt (goneCell (false, 1) c) () N) -∗ owing c (order.drop 3) -∗ Q (k0_pay18 (actA m ρ c) (actB m ρ c) (wgtA m ρ c) (wgtB m ρ c)))
      -∗ run c (onBufs (k0_part4 (F := F)) c v3 (actA m ρ c) (actB m ρ c) (wgtA m ρ c) (wgtB m ρ c)) Q) := by
  unfold onBufs
  rw [k0_part4_eq_skeleton]; unfold k0_part4_skel
  simp only [Prog.lift, Prog.bind_op, Prog.bind_ret, Prog.pure_eq_ret, Prog.bind_assoc]
  iintro #HK Hs2 Hs1 Ho1 Ho3 Ht2 Ht1 Hw Hk
  iapply (send_nth (val m ρ) K (false, 2) c 1 rfl rfl rfl (dev4_eq c) rfl rfl) $$ HK Hs2 Ht2 Hw
  iintro Hc2 Hw
  iapply (fill c oM (rO 1) (own m ρ c 1)) $$ Ho1
  iintro Ho1
  iapply (fill c (outM false) (rS 1) (val m ρ (false, 1) c)) $$ Hs1
  iintro Hs1
  iapply (send_nth (val m ρ) K (false, 1) c 2 rfl rfl rfl (dev5_eq c) rfl rfl) $$ HK Hs1 Ht1 Hw
  iintro Hc1 Hw
  iapply (fill c oM (rO 3) (own m ρ c 3)) $$ Ho3
  iintro Ho3
  iapply (done c)
  iapply Hk $$ Ho1 Ho3 Hc2 Hc1 Hw

/-- Step 3 sent, the departure of step 0 awaited. -/
theorem run_part5 (v3 v4 : BitVec 32) {Q : PUnit → sProp (MT nD τ sig Unit (Elt F) ℕ UU ℕ)} :
    (known (val m ρ) K) ⊢ iprop(spare c (outM false) (rS 3) -∗ ticket (false, 3) c -∗ cred (tallyAt (goneCell (false, 0) c) () N) -∗ atPos ER (goneCell (false, 0) c) 0 ∅ 0 -∗ owing c (order.drop 3)
      -∗ (cred (tallyAt (goneCell (false, 3) c) () N) -∗ atPos ER (goneCell (false, 0) c) (0 + 1) ∅ 0 -∗ part c (outM false) (rS 0) (val m ρ (false, 0) c) -∗ owing c (order.drop 4) -∗ Q ⟨⟩)
      -∗ run c (onBufs (k0_part5 (F := F)) c v3 v4 (k0_pay18 (actA m ρ c) (actB m ρ c) (wgtA m ρ c) (wgtB m ρ c))) Q) := by
  unfold onBufs
  rw [k0_part5_eq_skeleton]; unfold k0_part5_skel
  simp only [Prog.lift, Prog.bind_op, Prog.bind_ret, Prog.pure_eq_ret, Prog.bind_assoc]
  iintro #HK Hs3 Ht3 Hc0 Hg0 Hw Hk
  iapply (fill c (outM false) (rS 3) (val m ρ (false, 3) c)) $$ Hs3
  iintro Hs3
  iapply (send_nth (val m ρ) K (false, 3) c 3 rfl rfl rfl (dev6_eq c) rfl rfl) $$ HK Hs3 Ht3 Hw
  iintro Hc3 Hw
  iapply (await_gone (val m ρ) K (false, 0) (order.drop 4) c rfl (N_out false 0)) $$ HK Hc0 Hg0 Hw
  iintro Hg0 Hs0 Hw
  iapply (done c)
  iapply Hk $$ Hc3 Hg0 Hs0 Hw

/-- Chunk 0 received and sent on. -/
theorem run_part6 (v4 : BitVec 32) {Q : PUnit → sProp (MT nD τ sig Unit (Elt F) ℕ UU ℕ)} :
    (known (val m ρ) K) ⊢ iprop(cred (tallyAt (hereCell (false, 0) c) () N) -∗ atPos ER (hereCell (false, 0) c) 0 ∅ 0 -∗ part c oM (rO 0) (own m ρ c 0) -∗ spare c (outM true) (rS 0) -∗ ticket (true, 0) c -∗ owing c (order.drop 4)
      -∗ (atPos ER (hereCell (false, 0) c) (0 + 1) ∅ 0 -∗ part c (inM false) (rS 0) (val m ρ (false, 0) (peer (false, 0) c)) -∗ part c oM (rO 0) (once m ρ c 0) -∗ cred (tallyAt (goneCell (true, 0) c) () N) -∗ owing c (order.drop 5) -∗ Q ⟨⟩)
      -∗ run c (onBufs (k0_part6 (F := F)) c v4) Q) := by
  unfold onBufs
  rw [k0_part6_eq_skeleton]; unfold k0_part6_skel
  simp only [Prog.lift, Prog.bind_op, Prog.bind_ret, Prog.pure_eq_ret, Prog.bind_assoc]
  iintro #HK Hr0 Hh0 Ho0 Hs0 Ht0 Hw Hk
  iapply (await_here (val m ρ) K (false, 0) (order.drop 4) c rfl (N_in false 0) (by decide)) $$ HK Hr0 Hh0 Hw
  iintro Hh0 Hi0 Hw
  iapply (absorb c false 0 (own m ρ c 0) (once m ρ c 0) (val m ρ (false, 0) (peer (false, 0) c)) rfl) $$ Ho0 Hi0
  iintro Ho0 Hi0
  iapply (fill c (outM true) (rS 0) (val m ρ (true, 0) c)) $$ Hs0
  iintro Hs0
  iapply (send_nth (val m ρ) K (true, 0) c 4 rfl rfl rfl (dev7_eq c) rfl rfl) $$ HK Hs0 Ht0 Hw
  iintro Hc0 Hw
  iapply (done c)
  iapply Hk $$ Hh0 Hi0 Ho0 Hc0 Hw

/-- Chunk 2 received. -/
theorem run_part7 (v3 v4 : BitVec 32) {Q : PUnit → sProp (MT nD τ sig Unit (Elt F) ℕ UU ℕ)} :
    (known (val m ρ) K) ⊢ iprop(cred (tallyAt (goneCell (false, 2) c) () N) -∗ atPos ER (goneCell (false, 2) c) 0 ∅ 0 -∗ cred (tallyAt (hereCell (false, 2) c) () N) -∗ atPos ER (hereCell (false, 2) c) 0 ∅ 0 -∗ part c oM (rO 2) (own m ρ c 2) -∗ spare c (outM true) (rS 2) -∗ owing c (order.drop 5)
      -∗ (atPos ER (goneCell (false, 2) c) (0 + 1) ∅ 0 -∗ part c (outM false) (rS 2) (val m ρ (false, 2) c) -∗ atPos ER (hereCell (false, 2) c) (0 + 1) ∅ 0 -∗ part c (inM false) (rS 2) (val m ρ (false, 2) (peer (false, 2) c)) -∗ part c oM (rO 2) (once m ρ c 2) -∗ part c (outM true) (rS 2) (val m ρ (true, 2) c) -∗ owing c (order.drop 5) -∗ Q ⟨⟩)
      -∗ run c (onBufs (k0_part7 (F := F)) v3 v4) Q) := by
  unfold onBufs
  rw [k0_part7_eq_skeleton]; unfold k0_part7_skel
  simp only [Prog.lift, Prog.bind_op, Prog.bind_ret, Prog.pure_eq_ret, Prog.bind_assoc]
  iintro #HK Hc2 Hg2 Hr2 Hh2 Ho2 Hz2 Hw Hk
  iapply (await_gone (val m ρ) K (false, 2) (order.drop 5) c rfl (N_out false 2)) $$ HK Hc2 Hg2 Hw
  iintro Hg2 Hs2 Hw
  iapply (await_here (val m ρ) K (false, 2) (order.drop 5) c rfl (N_in false 2) (by decide)) $$ HK Hr2 Hh2 Hw
  iintro Hh2 Hi2 Hw
  iapply (absorb c false 2 (own m ρ c 2) (once m ρ c 2) (val m ρ (false, 2) (peer (false, 2) c)) rfl) $$ Ho2 Hi2
  iintro Ho2 Hi2
  iapply (fill c (outM true) (rS 2) (val m ρ (true, 2) c)) $$ Hz2
  iintro Hz2
  iapply (done c)
  iapply Hk $$ Hg2 Hs2 Hh2 Hi2 Ho2 Hz2 Hw

/-- Chunk 2 sent on, chunk 1 received. -/
theorem run_part8 (v3 : BitVec 32) {Q : (Σ' (_ : FVec F S128x512 .bf16), Vec F S1x128x512 .bf16) → sProp (MT nD τ sig Unit (Elt F) ℕ UU ℕ)} :
    (known (val m ρ) K) ⊢ iprop(part c (outM true) (rS 2) (val m ρ (true, 2) c) -∗ ticket (true, 2) c -∗ cred (tallyAt (goneCell (false, 1) c) () N) -∗ atPos ER (goneCell (false, 1) c) 0 ∅ 0 -∗ cred (tallyAt (hereCell (false, 1) c) () N) -∗ atPos ER (hereCell (false, 1) c) 0 ∅ 0 -∗ part c oM (rO 1) (own m ρ c 1) -∗ spare c (outM true) (rS 1) -∗ owing c (order.drop 5)
      -∗ (∀ w, cred (tallyAt (goneCell (true, 2) c) () N) -∗ atPos ER (goneCell (false, 1) c) (0 + 1) ∅ 0 -∗ part c (outM false) (rS 1) (val m ρ (false, 1) c) -∗ atPos ER (hereCell (false, 1) c) (0 + 1) ∅ 0 -∗ part c (inM false) (rS 1) (val m ρ (false, 1) (peer (false, 1) c)) -∗ part c oM (rO 1) (once m ρ c 1) -∗ spare c (outM true) (rS 1) -∗ owing c (order.drop 6) -∗ Q ⟨k0_pay25 (own m ρ c 1) (val m ρ (false, 1) (peer (false, 1) c)), w⟩)
      -∗ run c (onBufs (k0_part8 (F := F)) c v3) Q) := by
  unfold onBufs
  rw [k0_part8_eq_skeleton]; unfold k0_part8_skel
  simp only [Prog.lift, Prog.bind_op, Prog.bind_ret, Prog.pure_eq_ret, Prog.bind_assoc]
  iintro #HK Hz2 Ht2 Hc1 Hg1 Hr1 Hh1 Ho1 Hz1 Hw Hk
  iapply (send_nth (val m ρ) K (true, 2) c 5 rfl rfl rfl (dev8_eq c) rfl rfl) $$ HK Hz2 Ht2 Hw
  iintro Hc2 Hw
  iapply (await_gone (val m ρ) K (false, 1) (order.drop 6) c rfl (N_out false 1)) $$ HK Hc1 Hg1 Hw
  iintro Hg1 Hs1 Hw
  iapply (await_here (val m ρ) K (false, 1) (order.drop 6) c rfl (N_in false 1) (by decide)) $$ HK Hr1 Hh1 Hw
  iintro Hh1 Hi1 Hw
  iapply (absorb c false 1 (own m ρ c 1) (once m ρ c 1) (val m ρ (false, 1) (peer (false, 1) c)) rfl) $$ Ho1 Hi1
  iintro Ho1 Hi1
  iapply (load_spare c (outM true) (rS 1)) $$ Hz1
  iintro %w Hz1
  iapply (done c)
  iapply Hk $$ Hc2 Hg1 Hs1 Hh1 Hi1 Ho1 Hz1 Hw

/-- Chunk 1 sent on, step 3's departure and arrival awaited. -/
theorem run_part9 (v4 : BitVec 32) (w : Vec F S1x128x512 .bf16) {Q : PUnit → sProp (MT nD τ sig Unit (Elt F) ℕ UU ℕ)} :
    (known (val m ρ) K) ⊢ iprop(spare c (outM true) (rS 1) -∗ ticket (true, 1) c -∗ cred (tallyAt (goneCell (false, 3) c) () N) -∗ atPos ER (goneCell (false, 3) c) 0 ∅ 0 -∗ cred (tallyAt (hereCell (false, 3) c) () N) -∗ atPos ER (hereCell (false, 3) c) 0 ∅ 0 -∗ owing c (order.drop 6)
      -∗ (cred (tallyAt (goneCell (true, 1) c) () N) -∗ atPos ER (goneCell (false, 3) c) (0 + 1) ∅ 0 -∗ part c (outM false) (rS 3) (val m ρ (false, 3) c) -∗ atPos ER (hereCell (false, 3) c) (0 + 1) ∅ 0 -∗ part c (inM false) (rS 3) (val m ρ (false, 3) (peer (false, 3) c)) -∗ owing c (order.drop 7) -∗ Q ⟨⟩)
      -∗ run c (onBufs (k0_part9 (F := F)) c v4 (k0_pay25 (own m ρ c 1) (val m ρ (false, 1) (peer (false, 1) c))) w) Q) := by
  unfold onBufs
  rw [k0_part9_eq_skeleton]; unfold k0_part9_skel
  simp only [Prog.lift, Prog.bind_op, Prog.bind_ret, Prog.pure_eq_ret, Prog.bind_assoc]
  iintro #HK Hz1 Ht1 Hc3 Hg3 Hr3 Hh3 Hw Hk
  iapply (store_spare c (outM true) (rS 1) (val m ρ (true, 1) c)) $$ Hz1
  iintro Hz1
  iapply (send_nth (val m ρ) K (true, 1) c 6 rfl rfl rfl (dev9_eq c) rfl rfl) $$ HK Hz1 Ht1 Hw
  iintro Hc1 Hw
  iapply (await_gone (val m ρ) K (false, 3) (order.drop 7) c rfl (N_out false 3)) $$ HK Hc3 Hg3 Hw
  iintro Hg3 Hs3 Hw
  iapply (await_here (val m ρ) K (false, 3) (order.drop 7) c rfl (N_in false 3) (by decide)) $$ HK Hr3 Hh3 Hw
  iintro Hh3 Hi3 Hw
  iapply (done c)
  iapply Hk $$ Hc1 Hg3 Hs3 Hh3 Hi3 Hw

/-- Chunk 3 received and sent on. -/
theorem run_part10 (v3 : BitVec 32) {Q : PUnit → sProp (MT nD τ sig Unit (Elt F) ℕ UU ℕ)} :
    (known (val m ρ) K) ⊢ iprop(part c oM (rO 3) (own m ρ c 3) -∗ part c (inM false) (rS 3) (val m ρ (false, 3) (peer (false, 3) c)) -∗ spare c (outM true) (rS 3) -∗ ticket (true, 3) c -∗ cred (tallyAt (goneCell (true, 0) c) () N) -∗ atPos ER (goneCell (true, 0) c) 0 ∅ 0 -∗ owing c (order.drop 7)
      -∗ (part c oM (rO 3) (once m ρ c 3) -∗ part c (inM false) (rS 3) (val m ρ (false, 3) (peer (false, 3) c)) -∗ cred (tallyAt (goneCell (true, 3) c) () N) -∗ atPos ER (goneCell (true, 0) c) (0 + 1) ∅ 0 -∗ part c (outM true) (rS 0) (val m ρ (true, 0) c) -∗ owing c (order.drop 8) -∗ Q ⟨⟩)
      -∗ run c (onBufs (k0_part10 (F := F)) c v3) Q) := by
  unfold onBufs
  rw [k0_part10_eq_skeleton]; unfold k0_part10_skel
  simp only [Prog.lift, Prog.bind_op, Prog.bind_ret, Prog.pure_eq_ret, Prog.bind_assoc]
  iintro #HK Ho3 Hi3 Hs3 Ht3 Hc0 Hg0 Hw Hk
  iapply (absorb c false 3 (own m ρ c 3) (once m ρ c 3) (val m ρ (false, 3) (peer (false, 3) c)) rfl) $$ Ho3 Hi3
  iintro Ho3 Hi3
  iapply (fill c (outM true) (rS 3) (val m ρ (true, 3) c)) $$ Hs3
  iintro Hs3
  iapply (send_nth (val m ρ) K (true, 3) c 7 rfl rfl rfl (dev10_eq c) rfl rfl) $$ HK Hs3 Ht3 Hw
  iintro Hc3 Hw
  iapply (await_gone (val m ρ) K (true, 0) (order.drop 8) c rfl (N_out true 0)) $$ HK Hc0 Hg0 Hw
  iintro Hg0 Hs0 Hw
  iapply (done c)
  iapply Hk $$ Ho3 Hi3 Hc3 Hg0 Hs0 Hw

/-- Chunk 0 received for the second time. -/
theorem run_part11 (v3 v4 : BitVec 32) {Q : PUnit → sProp (MT nD τ sig Unit (Elt F) ℕ UU ℕ)} :
    (known (val m ρ) K) ⊢ iprop(cred (tallyAt (hereCell (true, 0) c) () N) -∗ atPos ER (hereCell (true, 0) c) 0 ∅ 0 -∗ part c oM (rO 0) (once m ρ c 0) -∗ cred (tallyAt (goneCell (true, 2) c) () N) -∗ atPos ER (goneCell (true, 2) c) 0 ∅ 0 -∗ owing c (order.drop 8)
      -∗ (atPos ER (hereCell (true, 0) c) (0 + 1) ∅ 0 -∗ part c (inM true) (rS 0) (val m ρ (true, 0) (peer (true, 0) c)) -∗ part c oM (rO 0) (twice m ρ c 0) -∗ atPos ER (goneCell (true, 2) c) (0 + 1) ∅ 0 -∗ part c (outM true) (rS 2) (val m ρ (true, 2) c) -∗ owing c (order.drop 8) -∗ Q ⟨⟩)
      -∗ run c (onBufs (k0_part11 (F := F)) v3 v4) Q) := by
  unfold onBufs
  rw [k0_part11_eq_skeleton]; unfold k0_part11_skel
  simp only [Prog.lift, Prog.bind_op, Prog.bind_ret, Prog.pure_eq_ret, Prog.bind_assoc]
  iintro #HK Hr0 Hh0 Ho0 Hc2 Hg2 Hw Hk
  iapply (await_here (val m ρ) K (true, 0) (order.drop 8) c rfl (N_in true 0) (by decide)) $$ HK Hr0 Hh0 Hw
  iintro Hh0 Hi0 Hw
  iapply (absorb c true 0 (once m ρ c 0) (twice m ρ c 0) (val m ρ (true, 0) (peer (true, 0) c)) rfl) $$ Ho0 Hi0
  iintro Ho0 Hi0
  iapply (await_gone (val m ρ) K (true, 2) (order.drop 8) c rfl (N_out true 2)) $$ HK Hc2 Hg2 Hw
  iintro Hg2 Hs2 Hw
  iapply (done c)
  iapply Hk $$ Hh0 Hi0 Ho0 Hg2 Hs2 Hw

/-- Chunk 2 received for the second time, and chunk 1 landed. -/
theorem run_part12 (v4 : BitVec 32) {Q : PUnit → sProp (MT nD τ sig Unit (Elt F) ℕ UU ℕ)} :
    (known (val m ρ) K) ⊢ iprop(cred (tallyAt (hereCell (true, 2) c) () N) -∗ atPos ER (hereCell (true, 2) c) 0 ∅ 0 -∗ part c oM (rO 2) (once m ρ c 2) -∗ cred (tallyAt (goneCell (true, 1) c) () N) -∗ atPos ER (goneCell (true, 1) c) 0 ∅ 0 -∗ cred (tallyAt (hereCell (true, 1) c) () N) -∗ atPos ER (hereCell (true, 1) c) 0 ∅ 0 -∗ owing c (order.drop 8)
      -∗ (atPos ER (hereCell (true, 2) c) (0 + 1) ∅ 0 -∗ part c (inM true) (rS 2) (val m ρ (true, 2) (peer (true, 2) c)) -∗ part c oM (rO 2) (twice m ρ c 2) -∗ atPos ER (goneCell (true, 1) c) (0 + 1) ∅ 0 -∗ part c (outM true) (rS 1) (val m ρ (true, 1) c) -∗ atPos ER (hereCell (true, 1) c) (0 + 1) ∅ 0 -∗ part c (inM true) (rS 1) (val m ρ (true, 1) (peer (true, 1) c)) -∗ owing c (order.drop 8) -∗ Q ⟨⟩)
      -∗ run c (onBufs (k0_part12 (F := F)) v4) Q) := by
  unfold onBufs
  rw [k0_part12_eq_skeleton]; unfold k0_part12_skel
  simp only [Prog.lift, Prog.bind_op, Prog.bind_ret, Prog.pure_eq_ret, Prog.bind_assoc]
  iintro #HK Hr2 Hh2 Ho2 Hc1 Hg1 Hr1 Hh1 Hw Hk
  iapply (await_here (val m ρ) K (true, 2) (order.drop 8) c rfl (N_in true 2) (by decide)) $$ HK Hr2 Hh2 Hw
  iintro Hh2 Hi2 Hw
  iapply (absorb c true 2 (once m ρ c 2) (twice m ρ c 2) (val m ρ (true, 2) (peer (true, 2) c)) rfl) $$ Ho2 Hi2
  iintro Ho2 Hi2
  iapply (await_gone (val m ρ) K (true, 1) (order.drop 8) c rfl (N_out true 1)) $$ HK Hc1 Hg1 Hw
  iintro Hg1 Hs1 Hw
  iapply (await_here (val m ρ) K (true, 1) (order.drop 8) c rfl (N_in true 1) (by decide)) $$ HK Hr1 Hh1 Hw
  iintro Hh1 Hi1 Hw
  iapply (done c)
  iapply Hk $$ Hh2 Hi2 Ho2 Hg1 Hs1 Hh1 Hi1 Hw

/-- Chunk 1 added for the second time, chunk 3 landed; the sum of the last chunk is handed on. -/
theorem run_part13 (v3 : BitVec 32) {Q : FVec F S128x512 .f32 → sProp (MT nD τ sig Unit (Elt F) ℕ UU ℕ)} :
    (known (val m ρ) K) ⊢ iprop(part c oM (rO 1) (once m ρ c 1) -∗ part c (inM true) (rS 1) (val m ρ (true, 1) (peer (true, 1) c)) -∗ cred (tallyAt (goneCell (true, 3) c) () N) -∗ atPos ER (goneCell (true, 3) c) 0 ∅ 0 -∗ cred (tallyAt (hereCell (true, 3) c) () N) -∗ atPos ER (hereCell (true, 3) c) 0 ∅ 0 -∗ part c oM (rO 3) (once m ρ c 3) -∗ owing c (order.drop 8)
      -∗ (part c oM (rO 1) (twice m ρ c 1) -∗ part c (inM true) (rS 1) (val m ρ (true, 1) (peer (true, 1) c)) -∗ atPos ER (goneCell (true, 3) c) (0 + 1) ∅ 0 -∗ part c (outM true) (rS 3) (val m ρ (true, 3) c) -∗ atPos ER (hereCell (true, 3) c) (0 + 1) ∅ 0 -∗ part c (inM true) (rS 3) (val m ρ (true, 3) (peer (true, 3) c)) -∗ part c oM (rO 3) (once m ρ c 3) -∗ owing c (order.drop 8) -∗ Q (twice m ρ c 3))
      -∗ run c (onBufs (k0_part13 (F := F)) v3) Q) := by
  unfold onBufs
  rw [k0_part13_eq_skeleton]; unfold k0_part13_skel
  simp only [Prog.lift, Prog.bind_op, Prog.bind_ret, Prog.pure_eq_ret, Prog.bind_assoc]
  iintro #HK Ho1 Hi1 Hc3 Hg3 Hr3 Hh3 Ho3 Hw Hk
  iapply (absorb c true 1 (once m ρ c 1) (twice m ρ c 1) (val m ρ (true, 1) (peer (true, 1) c)) rfl) $$ Ho1 Hi1
  iintro Ho1 Hi1
  iapply (await_gone (val m ρ) K (true, 3) (order.drop 8) c rfl (N_out true 3)) $$ HK Hc3 Hg3 Hw
  iintro Hg3 Hs3 Hw
  iapply (await_here (val m ρ) K (true, 3) (order.drop 8) c rfl (N_in true 3) (by decide)) $$ HK Hr3 Hh3 Hw
  iintro Hh3 Hi3 Hw
  iapply (load_part c oM (rO 3) (once m ρ c 3)) $$ Ho3
  iintro Ho3
  iapply (load_part c (inM true) (rS 3) (val m ρ (true, 3) (peer (true, 3) c))) $$ Hi3
  iintro Hi3
  iapply (done_eq c (w := twice m ρ c 3) rfl)
  iapply Hk $$ Ho1 Hi1 Hg3 Hs3 Hh3 Hi3 Ho3 Hw

end Cert.Moe

end
-- ==== Proof.Moe.Start.lean ====
/-
# `Start`: the printed pieces that meet the partners and compute the first chunk

The device tells both partners that its landing slots may be written, reads its inputs, waits for both partners, and computes
chunk 0 of its contribution.
-/
module

public import proofs.«01_k».proof.Proof.Moe.Parts1

@[expose] public section

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Meet
variable (val : X → Dev nD → Vec F S1x128x512 .bf16) (K : Dev nD × Y → ℕ) (c : Dev nD)
  {α : Type} {Q : α → sProp (MT nD τ sig Unit (Elt F) ℕ UU ℕ)} {k : PUnit → Prog (TpuEff nD τ sig (Elt F) Λ₀ .tc) α}

/-- The signal to a partner hands it the landing slots it will write. -/
theorem signal_step (d : Bool) {n : Dev nD} {w : ℤ} (hn : n = mate d c) (hw : w = 1) {O O' : CellTallies nD τ sig Unit}
    (hO : O' = O + tallyAt (barCell (mate d c)) () 1) (W : Waits sig Unit) :
    (known val K) ⊢ iprop(dutyTok ER (barCell (mate d c)) 0 d -∗ landing d c -∗ owes (c : Thread nD τ) O' W
      -∗ (owes (c : Thread nD τ) O W -∗ run c (k ⟨⟩) Q)
      -∗ run c (.op (.semSignal ((n : Dev nD) : Thread nD τ) barrier0 w) k) Q) := by
  subst hn hw
  iintro #HK Ht Hl Ho Hk
  iapply (Rounds.wp_signal 𝒱₀ ER (sched val) (c : Thread nD τ) none (dst := ((mate d c : Dev nD) : Thread nD τ)) (κ := K (mate d c, none)) (r := 0) (d := d)
    (by rw [duties_bar]; exact Finset.mem_univ _) ((amount_bar val (mate d c) d).trans (by decide)) () O hO) $$ [Ht Hl Ho]
  · isplitr; · iapply (known_inv val K (mate d c, none)); iexact HK
    isplitl [Ho]; · iexact Ho
    isplitl [Ht]; · iexact Ht
    isplitl [Hl]
    · rw [payload_bar, mate_mate]; iexact Hl
    iapply (known_reached val K (mate d c, none)); iexact HK
  iexact Hk

/-- Both partners met: their landing slots are the device's to write. -/
theorem meet_step {w : ℤ} (hw : w = 2) :
    (known val K) ⊢ iprop(cred (tallyAt (barCell c) () 2) -∗ atPos ER (barCell c) 0 ∅ 0 -∗ owing c (order.drop 0)
      -∗ (atPos ER (barCell c) (0 + 1) ∅ 0 -∗ landing false (mate false c) -∗ landing true (mate true c) -∗ owing c (order.drop 0) -∗ run c (k ⟨⟩) Q)
      -∗ run c (.op (.semWait barrier0 w) k) Q) := by
  subst hw
  unfold owing
  iintro #HK Hc Ha ⟨%W, Ho⟩ Hk
  iapply (Rounds.wp_wait_rest_token 𝒱₀ ER (sched val) (c : Thread nD τ) none (κ := K (c, none))
      (wpE_semWait_eq 𝒱₀ (c : Thread nD τ) none Set.univ) (Set.mem_univ _) () (O := dues c (order.drop 0)) (W := W) (R := 0) (m := 0) (T := ∅)
      (by rw [expect_bar])) $$ [Hc Ha Ho]
  · isplitr; · iapply (known_inv val K (c, none)); iexact HK
    isplitl [Hc]; · iexact Hc
    isplitl [Ho]; · iexact Ho
    isplitr; · iapply (mayWait_list (F := F) c (csem none) (order.drop 0) (by decide)); iapply (known_levels val K); iexact HK
    iexact Ha
  iintro ⟨Ho, Ha, -, Hp⟩
  ihave Hp := (Entails.of_eq (rest_bar val c)) $$ Hp
  icases Hp with ⟨Hl, Hr⟩
  iapply Hk $$ Ha Hl Hr
  iexists _; iexact Ho

/-- Device `c` holds the whole of a buffer, at contents `x`. -/
def held {s : Shape} {e : EltTy} (M : Memref sig .tc .vmem s e) (x : Buf (Elt F) (M.view.loc (c : Thread nD τ))) : sProp 𝕄 :=
  M.view.loc (c : Thread nD τ) ↦{fullShare} x

/-- A held buffer is read through a rectangle. -/
theorem load_in {s : Shape} {e : EltTy} (M : Memref sig .tc .vmem s e) (r : Rect s) (x : Buf (Elt F) (M.view.loc (c : Thread nD τ)))
    (v : r.shape.Idx → Elt F e) (hv : (M.access r).read (Elt F) x = v) {hl : M.view.LoadsAt r.toLoadRect}
    {k : (r.shape.Idx → Elt F e) → Prog (TpuEff nD τ sig (Elt F) Λ₀ .tc) α} :
    (held c M x) ⊢ iprop((held c M x -∗ run c (k v) Q) -∗ run c (.op (.load M r.toLoadRect hl) k) Q) := by
  subst hv
  unfold held
  iintro H Hk
  iapply (wp_load_rect 𝒱₀ (c : Thread nD τ) none Set.univ (m := M) (r := r) (Finset.subset_univ _)) $$ H
  iexact Hk

end Meet

variable (m : (ℓ : Loc nD τ sig) → Buf (Elt F) ℓ) (ρ : Dev nD → PrngReg) (K : Dev nD × Y → ℕ) (c : Dev nD)

theorem zero2 : (![0, 0] : Fin 2 → Nat) = fun _ => 0 := funext fun a => by fin_cases a <;> rfl

set_option maxRecDepth 4000 in
/-- Both partners told, and the inputs read. -/
theorem run_part1 (W : Waits sig Unit) {Q : (Σ' (d0 : Dev nD) (v2 : BitVec 32) (v3 : BitVec 32) (v4 : BitVec 32) (v5 : Sems sig S_) (v11 : FVec F S512x256 .f32) (v23 : FVec F S512x8 .f32) (v24 : IVec S512x8 32) (v33 : IVec S512x8 1), FVec F S512x8 .f32) → sProp (MT nD τ sig Unit (Elt F) ℕ UU ℕ)} :
    (known (val m ρ) K) ⊢ iprop(dutyTok ER (barCell (mate false c)) 0 false -∗ dutyTok ER (barCell (mate true c)) 0 true
      -∗ landing false c -∗ landing true c -∗ owes (c : Thread nD τ) (dues₀ c) W
      -∗ held c xM (inX m ρ c) -∗ held c rM (inR m ρ c) -∗ held c iM (inI m ρ c)
      -∗ (held c xM (inX m ρ c) -∗ held c rM (inR m ρ c) -∗ held c iM (inI m ρ c) -∗ owing c (order.drop 0)
        -∗ Q ⟨c, place c, Scalar.xori (place c) 1#32, Scalar.xori (place c) 3#32, SemArray.scalar (sig.barrier 0 rfl), xs m ρ c, probs m ρ c, lane, chosen m ρ c, k0_pay4⟩)
      -∗ run c (onBufs (k0_part1 (F := F))) Q) := by
  unfold onBufs
  rw [k0_part1_eq_skeleton]; unfold k0_part1_skel
  simp only [semSignalWord, Prog.lift, Prog.bind_op, Prog.bind_ret, Prog.pure_eq_ret, Prog.bind_assoc]
  iintro #HK Ht0 Ht1 Hl0 Hl1 Ho Hx Hr Hi Hk
  unfold run
  rw [wp_deviceId]
  iapply (signal_step (val m ρ) K c false (dev1_eq c) rfl (O' := dues₀ c) (O := dues₁ c) rfl W) $$ HK Ht0 Hl0 Ho
  iintro Ho
  iapply (signal_step (val m ρ) K c true (dev2_eq c) rfl (O' := dues₁ c) (O := dues c (order.drop 0)) rfl W) $$ HK Ht1 Hl1 Ho
  iintro Ho
  iapply (load_in c xM (Rect.unit ![0, 0] S512x256.size inb_S512x256_S512x256_0_0) (inX m ρ c) (inX m ρ c) (Memref.read_access_unit_zero (Elt F) cc0_stg0_0 zero2 _ _)) $$ Hx
  iintro Hx
  iapply (load_in c rM (Rect.unit ![0, 0] S256x8.size inb_S256x8_S256x8_0_0) (inR m ρ c) (inR m ρ c) (Memref.read_access_unit_zero (Elt F) cc0_stg1_0 zero2 _ _)) $$ Hr
  iintro Hr
  iapply (load_in c iM (rI 0) (inI m ρ c) (pick m ρ c 0) rfl) $$ Hi
  iintro Hi
  iapply (load_in c iM (rI 1) (inI m ρ c) (pick m ρ c 1) rfl) $$ Hi
  iintro Hi
  iapply (show (Q ⟨c, place c, Scalar.xori (place c) 1#32, Scalar.xori (place c) 3#32, SemArray.scalar (sig.barrier 0 rfl), xs m ρ c, probs m ρ c, lane, chosen m ρ c, k0_pay4⟩) ⊢ run c (.ret ⟨(c : Thread nD τ).1, Scalar.remsi (Scalar.divsi (Dev.word (c : Thread nD τ).1) 1#32) 4#32, Scalar.xori (Scalar.remsi (Scalar.divsi (Dev.word (c : Thread nD τ).1) 1#32) 4#32) 1#32, Scalar.xori (Scalar.remsi (Scalar.divsi (Dev.word (c : Thread nD τ).1) 1#32) 4#32) 3#32, SemArray.scalar (sig.barrier 0 rfl), xs m ρ c, probs m ρ c, lane, chosen m ρ c, k0_pay4⟩) Q from done_eq c rfl)
  iapply Hk $$ Hx Hr Hi
  unfold owing; iexists W; iexact Ho

/-- The two experts' weights read, both partners met, chunk 0 computed. -/
theorem run_part2 {Q : (Σ' (v56 : FVec F S512x256 .bf16) (v59 : FVec F S512x256 .bf16) (v62 : FVec F S256x512 .bf16) (v65 : FVec F S256x512 .bf16), FVec F S128x512 .bf16) → sProp (MT nD τ sig Unit (Elt F) ℕ UU ℕ)} :
    (known (val m ρ) K) ⊢ iprop(held c eM (inE m ρ c) -∗ cred (tallyAt (barCell c) () 2) -∗ atPos ER (barCell c) 0 ∅ 0 -∗ spare c oM (rO 0)
      -∗ owing c (order.drop 0)
      -∗ (held c eM (inE m ρ c) -∗ atPos ER (barCell c) (0 + 1) ∅ 0 -∗ landing false (mate false c) -∗ landing true (mate true c)
        -∗ part c oM (rO 0) (own m ρ c 0) -∗ owing c (order.drop 0)
        -∗ Q ⟨actA m ρ c, actB m ρ c, wgtA m ρ c, wgtB m ρ c, k0_pay11 (place c) (xs m ρ c) (probs m ρ c) lane (chosen m ρ c) k0_pay4 (expert m ρ c 0) (expert m ρ c 1)⟩)
      -∗ run c (onBufs (k0_part2 (F := F)) (place c) (SemArray.scalar (sig.barrier 0 rfl)) (xs m ρ c) (probs m ρ c) lane (chosen m ρ c) k0_pay4) Q) := by
  unfold onBufs
  rw [k0_part2_eq_skeleton]; unfold k0_part2_skel
  simp only [semWaitWord, Prog.lift, Prog.bind_op, Prog.bind_ret, Prog.pure_eq_ret, Prog.bind_assoc]
  iintro #HK He Hc Hb Ho0 Hw Hk
  iapply (load_in c eM (rE 0) (inE m ρ c) (expert m ρ c 0) rfl) $$ He
  iintro He
  iapply (load_in c eM (rE 1) (inE m ρ c) (expert m ρ c 1) rfl) $$ He
  iintro He
  iapply (meet_step (val m ρ) K c rfl) $$ HK Hc Hb Hw
  iintro Hb Hl Hr Hw
  iapply (fill c oM (rO 0) (own m ρ c 0)) $$ Ho0
  iintro Ho0
  iapply (show (Q ⟨actA m ρ c, actB m ρ c, wgtA m ρ c, wgtB m ρ c, k0_pay11 (place c) (xs m ρ c) (probs m ρ c) lane (chosen m ρ c) k0_pay4 (expert m ρ c 0) (expert m ρ c 1)⟩) ⊢ run c (.ret ⟨k0_pay6 (place c) (xs m ρ c) (probs m ρ c) lane (chosen m ρ c) k0_pay4, k0_pay7 (place c) (xs m ρ c) (probs m ρ c) lane (chosen m ρ c) k0_pay4, k0_pay8 (expert m ρ c 0), k0_pay9 (expert m ρ c 1), k0_pay11 (place c) (xs m ρ c) (probs m ρ c) lane (chosen m ρ c) k0_pay4 (expert m ρ c 0) (expert m ρ c 1)⟩) Q from done_eq c rfl)
  iapply Hk $$ He Hb Hl Hr Ho0 Hw

end Cert.Moe

end
-- ==== Proof.Moe.Body.lean ====
/-
# `Body`: the kernel's body as one rule

From the device's share of the exchange to the rows it ends with, piece after piece.
-/
module

public import proofs.«01_k».proof.Proof.Moe.Start

@[expose] public section

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable {M : Type} [URA M]
theorem bigSep_X (Φ : X → sProp M) : bigSep Finset.univ Φ
    = iprop(Φ (false, 0) ∗ Φ (false, 1) ∗ Φ (false, 2) ∗ Φ (false, 3) ∗ Φ (true, 0) ∗ Φ (true, 1) ∗ Φ (true, 2) ∗ Φ (true, 3)) :=
  bigSep_univ_eq_bigSepL [(false, 0), (false, 1), (false, 2), (false, 3), (true, 0), (true, 1), (true, 2), (true, 3)] (by decide) (by decide) Φ
theorem bigSep_four (Φ : Fin 4 → sProp M) : bigSep Finset.univ Φ = iprop(Φ 0 ∗ Φ 1 ∗ Φ 2 ∗ Φ 3) :=
  bigSep_univ_eq_bigSepL [0, 1, 2, 3] (by decide) (by decide) Φ
end

variable (m : (ℓ : Loc nD τ sig) → Buf (Elt F) ℓ) (ρ : Dev nD → PrngReg) (K : Dev nD × Y → ℕ) (c : Dev nD)

/-- What the device starts a step with: its positions at the two counters, the right to await the arrival, the slot it will
    send from, and the duties it pays. -/
def gear (x : X) (c : Dev nD) : sProp 𝕄 :=
  iprop((atPos ER (goneCell x c) 0 ∅ 0 ∗ atPos ER (hereCell x c) 0 ∅ 0) ∗ cred (tallyAt (hereCell x c) () N) ∗ spare c (outM x.1) (rS x.2)
    ∗ dutyTok ER (goneCell x c) 0 false ∗ dutyTok ER (hereCell x (peer x c)) 0 false)

/-- What a step leaves: both counters past their round, the slot sent and the slot received. -/
def spent (x : X) (c : Dev nD) : sProp 𝕄 :=
  iprop((atPos ER (goneCell x c) (0 + 1) ∅ 0 ∗ atPos ER (hereCell x c) (0 + 1) ∅ 0)
    ∗ part c (outM x.1) (rS x.2) (val m ρ x c) ∗ part c (inM x.1) (rS x.2) (val m ρ x (peer x c)))

/-- The partners' landing slots, step by step. -/
theorem landing_all : (iprop(landing false (mate false c) ∗ landing true (mate true c)) : sProp 𝕄)
    ⊢ bigSep Finset.univ fun x : X => spare (peer x c) (inM x.1) (rS x.2) := by
  have h (d : Bool) : (landing d (mate d c) : sProp 𝕄) = bigSep (Finset.univ.filter fun x : X => side x = d) fun x => spare (peer x c) (inM x.1) (rS x.2) := by
    unfold landing
    exact bigSep_congr fun x hx => by unfold peer; rw [(Finset.mem_filter.mp hx).2]
  have hu : (Finset.univ : Finset X) = (Finset.univ.filter fun x : X => side x = false) ∪ Finset.univ.filter fun x : X => side x = true := by decide
  refine Entails.of_eq ?_
  rw [h false, h true]
  exact (bigSep_union (by decide)).symm.trans (congrArg (fun S => bigSep S _) hu.symm)

set_option maxHeartbeats 1600000 in
set_option maxRecDepth 4000 in
/-- The body. -/
theorem run_body (W : Waits sig Unit) {Q : PUnit → sProp (MT nD τ sig Unit (Elt F) ℕ UU ℕ)} :
    (known (val m ρ) K) ⊢ iprop(dutyTok ER (barCell (mate false c)) 0 false -∗ dutyTok ER (barCell (mate true c)) 0 true
      -∗ cred (tallyAt (barCell c) () 2) -∗ atPos ER (barCell c) 0 ∅ 0 -∗ (bigSep Finset.univ fun x : X => gear x c)
      -∗ landing false c -∗ landing true c -∗ owes (c : Thread nD τ) (dues₀ c) W
      -∗ held c xM (inX m ρ c) -∗ held c rM (inR m ρ c) -∗ held c iM (inI m ρ c) -∗ held c eM (inE m ρ c)
      -∗ (bigSep Finset.univ fun k : Fin 4 => spare c oM (rO k))
      -∗ (held c xM (inX m ρ c) -∗ held c rM (inR m ρ c) -∗ held c iM (inI m ρ c) -∗ held c eM (inE m ρ c)
        -∗ (bigSep Finset.univ fun k : Fin 4 => part c oM (rO k) (twice m ρ c k)) -∗ atPos ER (barCell c) (0 + 1) ∅ 0
        -∗ (bigSep Finset.univ fun x : X => spent m ρ x c) -∗ owing c (order.drop 8) -∗ Q ⟨⟩)
      -∗ run c (onBufs (cc0_body (F := F))) Q) := by
  unfold onBufs
  rw [cc0_body_eq_skeleton]; unfold cc0_body_skel
  simp only [Prog.lift, Prog.pure_eq_ret, run, wp_bind]
  rw [bigSep_X, bigSep_four, bigSep_X, bigSep_four]
  unfold gear spent
  iintro #HK Hb0 Hb1 Hcb Hab HG Hl0 Hl1 HW Hx Hr Hi He HO Hk
  icases HG with ⟨⟨⟨HgF0, HhF0⟩, HrF0, HsF0, HpF0, HqF0⟩, ⟨⟨HgF1, HhF1⟩, HrF1, HsF1, HpF1, HqF1⟩, ⟨⟨HgF2, HhF2⟩, HrF2, HsF2, HpF2, HqF2⟩, ⟨⟨HgF3, HhF3⟩, HrF3, HsF3, HpF3, HqF3⟩, ⟨⟨HgT0, HhT0⟩, HrT0, HsT0, HpT0, HqT0⟩, ⟨⟨HgT1, HhT1⟩, HrT1, HsT1, HpT1, HqT1⟩, ⟨⟨HgT2, HhT2⟩, HrT2, HsT2, HpT2, HqT2⟩, ⟨⟨HgT3, HhT3⟩, HrT3, HsT3, HpT3, HqT3⟩⟩
  icases HO with ⟨Ho0, Ho1, Ho2, Ho3⟩
  iapply (run_part1 m ρ K c W) $$ HK Hb0 Hb1 Hl0 Hl1 HW Hx Hr Hi
  iintro Hx Hr Hi Hw
  iapply (run_part2 m ρ K c) $$ HK He Hcb Hab Ho0 Hw
  iintro He Hab Hl0 Hl1 Ho0 Hw
  ihave HL := (landing_all c) $$ [Hl0 Hl1]
  · isplitl [Hl0] <;> iassumption
  ihave HL := (Entails.of_eq (bigSep_X fun x : X => (spare (peer x c) (inM x.1) (rS x.2) : sProp 𝕄))) $$ HL
  icases HL with ⟨HlF0, HlF1, HlF2, HlF3, HlT0, HlT1, HlT2, HlT3⟩
  ihave HtF0 := (show iprop(spare (peer (false, 0) c) (inM false) (rS 0) ∗ dutyTok ER (goneCell (false, 0) c) 0 false ∗ dutyTok ER (hereCell (false, 0) (peer (false, 0) c)) 0 false) ⊢ (ticket (false, 0) c : sProp 𝕄) from BI.Entails.refl _) $$ [HlF0 HpF0 HqF0]
  · isplitl [HlF0]; · iexact HlF0
    isplitl [HpF0] <;> iassumption
  ihave HtF1 := (show iprop(spare (peer (false, 1) c) (inM false) (rS 1) ∗ dutyTok ER (goneCell (false, 1) c) 0 false ∗ dutyTok ER (hereCell (false, 1) (peer (false, 1) c)) 0 false) ⊢ (ticket (false, 1) c : sProp 𝕄) from BI.Entails.refl _) $$ [HlF1 HpF1 HqF1]
  · isplitl [HlF1]; · iexact HlF1
    isplitl [HpF1] <;> iassumption
  ihave HtF2 := (show iprop(spare (peer (false, 2) c) (inM false) (rS 2) ∗ dutyTok ER (goneCell (false, 2) c) 0 false ∗ dutyTok ER (hereCell (false, 2) (peer (false, 2) c)) 0 false) ⊢ (ticket (false, 2) c : sProp 𝕄) from BI.Entails.refl _) $$ [HlF2 HpF2 HqF2]
  · isplitl [HlF2]; · iexact HlF2
    isplitl [HpF2] <;> iassumption
  ihave HtF3 := (show iprop(spare (peer (false, 3) c) (inM false) (rS 3) ∗ dutyTok ER (goneCell (false, 3) c) 0 false ∗ dutyTok ER (hereCell (false, 3) (peer (false, 3) c)) 0 false) ⊢ (ticket (false, 3) c : sProp 𝕄) from BI.Entails.refl _) $$ [HlF3 HpF3 HqF3]
  · isplitl [HlF3]; · iexact HlF3
    isplitl [HpF3] <;> iassumption
  ihave HtT0 := (show iprop(spare (peer (true, 0) c) (inM true) (rS 0) ∗ dutyTok ER (goneCell (true, 0) c) 0 false ∗ dutyTok ER (hereCell (true, 0) (peer (true, 0) c)) 0 false) ⊢ (ticket (true, 0) c : sProp 𝕄) from BI.Entails.refl _) $$ [HlT0 HpT0 HqT0]
  · isplitl [HlT0]; · iexact HlT0
    isplitl [HpT0] <;> iassumption
  ihave HtT1 := (show iprop(spare (peer (true, 1) c) (inM true) (rS 1) ∗ dutyTok ER (goneCell (true, 1) c) 0 false ∗ dutyTok ER (hereCell (true, 1) (peer (true, 1) c)) 0 false) ⊢ (ticket (true, 1) c : sProp 𝕄) from BI.Entails.refl _) $$ [HlT1 HpT1 HqT1]
  · isplitl [HlT1]; · iexact HlT1
    isplitl [HpT1] <;> iassumption
  ihave HtT2 := (show iprop(spare (peer (true, 2) c) (inM true) (rS 2) ∗ dutyTok ER (goneCell (true, 2) c) 0 false ∗ dutyTok ER (hereCell (true, 2) (peer (true, 2) c)) 0 false) ⊢ (ticket (true, 2) c : sProp 𝕄) from BI.Entails.refl _) $$ [HlT2 HpT2 HqT2]
  · isplitl [HlT2]; · iexact HlT2
    isplitl [HpT2] <;> iassumption
  ihave HtT3 := (show iprop(spare (peer (true, 3) c) (inM true) (rS 3) ∗ dutyTok ER (goneCell (true, 3) c) 0 false ∗ dutyTok ER (hereCell (true, 3) (peer (true, 3) c)) 0 false) ⊢ (ticket (true, 3) c : sProp 𝕄) from BI.Entails.refl _) $$ [HlT3 HpT3 HqT3]
  · isplitl [HlT3]; · iexact HlT3
    isplitl [HpT3] <;> iassumption
  iapply (run_part3 m ρ K c _ _) $$ HK HsF0 HsF2 Ho2 HtF0 Hw
  iintro HsF2 Ho2 HcF0 Hw
  iapply (run_part4 m ρ K c _) $$ HK HsF2 HsF1 Ho1 Ho3 HtF2 HtF1 Hw
  iintro Ho1 Ho3 HcF2 HcF1 Hw
  iapply (run_part5 m ρ K c _ _) $$ HK HsF3 HtF3 HcF0 HgF0 Hw
  iintro HcF3 HgF0 HsF0 Hw
  iapply (run_part6 m ρ K c _) $$ HK HrF0 HhF0 Ho0 HsT0 HtT0 Hw
  iintro HhF0 HiF0 Ho0 HcT0 Hw
  iapply (run_part7 m ρ K c _ _) $$ HK HcF2 HgF2 HrF2 HhF2 Ho2 HsT2 Hw
  iintro HgF2 HsF2 HhF2 HiF2 Ho2 HsT2 Hw
  iapply (run_part8 m ρ K c _) $$ HK HsT2 HtT2 HcF1 HgF1 HrF1 HhF1 Ho1 HsT1 Hw
  iintro %w HcT2 HgF1 HsF1 HhF1 HiF1 Ho1 HsT1 Hw
  iapply (run_part9 m ρ K c _ _) $$ HK HsT1 HtT1 HcF3 HgF3 HrF3 HhF3 Hw
  iintro HcT1 HgF3 HsF3 HhF3 HiF3 Hw
  iapply (run_part10 m ρ K c _) $$ HK Ho3 HiF3 HsT3 HtT3 HcT0 HgT0 Hw
  iintro Ho3 HiF3 HcT3 HgT0 HsT0 Hw
  iapply (run_part11 m ρ K c _ _) $$ HK HrT0 HhT0 Ho0 HcT2 HgT2 Hw
  iintro HhT0 HiT0 Ho0 HgT2 HsT2 Hw
  iapply (run_part12 m ρ K c _) $$ HK HrT2 HhT2 Ho2 HcT1 HgT1 HrT1 HhT1 Hw
  iintro HhT2 HiT2 Ho2 HgT1 HsT1 HhT1 HiT1 Hw
  iapply (run_part13 m ρ K c _) $$ HK Ho1 HiT1 HcT3 HgT3 HrT3 HhT3 Ho3 Hw
  iintro Ho1 HiT1 HgT3 HsT3 HhT3 HiT3 Ho3 Hw
  iapply (load_part c oM (rO 3) (once m ρ c 3)) $$ Ho3
  iintro Ho3
  iapply (done c)
  iapply (store_part c oM (rO 3) (once m ρ c 3) (twice m ρ c 3)) $$ Ho3
  iintro Ho3
  iapply (done c)
  iapply (done c)
  iapply Hk $$ Hx Hr Hi He [Ho0 Ho1 Ho2 Ho3] Hab [-Hw] Hw
  · isplitl [Ho0]; · iexact Ho0
    isplitl [Ho1]; · iexact Ho1
    isplitl [Ho2] <;> iassumption
  · isplitl [HgF0 HhF0 HsF0 HiF0]
    · isplitl [HgF0 HhF0]
      · isplitl [HgF0] <;> iassumption
      isplitl [HsF0] <;> iassumption
    isplitl [HgF1 HhF1 HsF1 HiF1]
    · isplitl [HgF1 HhF1]
      · isplitl [HgF1] <;> iassumption
      isplitl [HsF1] <;> iassumption
    isplitl [HgF2 HhF2 HsF2 HiF2]
    · isplitl [HgF2 HhF2]
      · isplitl [HgF2] <;> iassumption
      isplitl [HsF2] <;> iassumption
    isplitl [HgF3 HhF3 HsF3 HiF3]
    · isplitl [HgF3 HhF3]
      · isplitl [HgF3] <;> iassumption
      isplitl [HsF3] <;> iassumption
    isplitl [HgT0 HhT0 HsT0 HiT0]
    · isplitl [HgT0 HhT0]
      · isplitl [HgT0] <;> iassumption
      isplitl [HsT0] <;> iassumption
    isplitl [HgT1 HhT1 HsT1 HiT1]
    · isplitl [HgT1 HhT1]
      · isplitl [HgT1] <;> iassumption
      isplitl [HsT1] <;> iassumption
    isplitl [HgT2 HhT2 HsT2 HiT2]
    · isplitl [HgT2 HhT2]
      · isplitl [HgT2] <;> iassumption
      isplitl [HsT2] <;> iassumption
    isplitl [HgT3 HhT3]
    · isplitl [HgT3] <;> iassumption
    isplitl [HsT3] <;> iassumption

end Cert.Moe

end
-- ==== Proof.Moe.Data.lean ====
/-
# `Data`: the pipeline's data for the one call, and its body obligation

A device enters the call with its share of the exchange and its four scratch buffers cut into slots; it leaves it with the
slots back and every counter at zero.
-/
module

public import proofs.«01_k».proof.Proof.Moe.Body

@[expose] public section

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable {M : Type} [URA M]
theorem bigSep_Y (Φ : Y → sProp M) : bigSep Finset.univ Φ
    = iprop(Φ none ∗ (bigSep Finset.univ fun x : X => Φ (some (false, x))) ∗ bigSep Finset.univ fun x : X => Φ (some (true, x))) := by
  have hs : (Finset.univ.erase none : Finset Y) = Finset.univ.map Function.Embedding.some := by decide
  rw [bigSep_univ_at Φ none, hs, bigSep_map]
  refine congrArg (fun P => iprop(Φ none ∗ P)) ?_
  exact (bigSep_univ_prod (fun y : XC => Φ (some y))).trans (bigSep_univ_eq_bigSepL [false, true] (by decide) (by decide) _)
end

variable (m : (ℓ : Loc nD τ sig) → Buf (Elt F) ℓ) (ρ : Dev nD → PrngReg)

/-- What the launch gives device `c` besides the knowledge: its positions, and the duties it pays. -/
def ghost (c : Dev nD) : sProp 𝕄 :=
  iprop((atPos ER (barCell c) 0 ∅ 0 ∗ (bigSep Finset.univ fun x : X => atPos ER (goneCell x c) 0 ∅ 0) ∗ bigSep Finset.univ fun x : X => atPos ER (hereCell x c) 0 ∅ 0)
    ∗ (dutyTok ER (barCell (mate false c)) 0 false ∗ dutyTok ER (barCell (mate true c)) 0 true)
    ∗ (bigSep Finset.univ fun x : X => dutyTok ER (goneCell x c) 0 false) ∗ bigSep Finset.univ fun x : X => dutyTok ER (hereCell x (peer x c)) 0 false)

/-- Its rights to wait: for both partners, and for each arrival. -/
def creds (c : Dev nD) : sProp 𝕄 :=
  iprop(cred (tallyAt (barCell c) () 2) ∗ bigSep Finset.univ fun x : X => cred (tallyAt (hereCell x c) () N))

def start (c : Dev nD) : sProp 𝕄 := iprop((∃ K, known (val m ρ) K ∗ ghost c) ∗ creds c)

/-- The scratch buffers, slot by slot. -/
def slots (c : Dev nD) : sProp 𝕄 :=
  iprop((bigSep Finset.univ fun x : X => spare c (outM x.1) (rS x.2)) ∗ bigSep Finset.univ fun x : X => spare c (inM x.1) (rS x.2))

/-- Every counter of the exchange at zero. -/
def zeros (c : Dev nD) : sProp 𝕄 := bigSep Finset.univ fun y : Y => semVal (cell c y) 0

def Φ₀ (c : Dev nD) : sProp 𝕄 := iprop(start m ρ c ∗ slots c)
def Φ₁ (c : Dev nD) : sProp 𝕄 := iprop(zeros c ∗ slots c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m ρ c
    | ⟨1, _⟩ => inR m ρ c
    | ⟨2, _⟩ => inI m ρ c
    | ⟨3, _⟩ => inE m ρ c
    | ⟨4, _⟩ => outAt m ρ c
  Φ t := match t with
    | ⟨0, _⟩ => Φ₀ m ρ c
    | ⟨_ + 1, _⟩ => Φ₁ c
  q _ := fullShare
  owed t := match t with
    | ⟨0, _⟩ => dues₀ c
    | ⟨_ + 1, _⟩ => 0

/-! ## Around the body -/

/-- The device's own landing slots, by the partner that writes them. -/
theorem landing_split (c : Dev nD) : (bigSep Finset.univ fun x : X => (spare c (inM x.1) (rS x.2) : sProp 𝕄)) ⊢ iprop(landing false c ∗ landing true c) := by
  have hu : (Finset.univ : Finset X) = (Finset.univ.filter fun x : X => side x = false) ∪ Finset.univ.filter fun x : X => side x = true := by decide
  refine Entails.of_eq ?_
  unfold landing
  exact (congrArg (fun S => bigSep S _) hu).trans (bigSep_union (by decide))

/-- The chunks a device ends with are its result. -/
theorem out_of_chunks (c : Dev nD) (f : (cc0_stg4_0 : Ref sig .tc).ty.Contents (Elt F))
    (h : ∀ t, (oM.access (rO t)).read (Elt F) f = twice m ρ c t) : f = outAt m ρ c := by
  funext x
  unfold outAt
  rw [← h]
  have h0 : (x 0).val < 512 := (x 0).isLt
  show f x = f _
  refine congrArg f (funext fun a => Fin.ext ?_)
  fin_cases a
  · show (x 0).val = 128 * ((x 0).val / 128) + 1 * ((x 0).val % 128)
    omega
  · show (x 1).val = 0 + 1 * (x 1).val
    omega

/-- A step's two counters closed, its slots free again. -/
theorem close_step (K : Dev nD × Y → ℕ) (c : Dev nD) (x : X) :
    iprop(known (val m ρ) K ∗ spent m ρ x c)
      ⊢ iprop(|={Set.univ}=> ((semVal (goneCell x c) 0 ∗ semVal (hereCell x c) 0) ∗ spare c (outM x.1) (rS x.2) ∗ spare c (inM x.1) (rS x.2)) : sProp 𝕄) := by
  unfold spent
  iintro ⟨#HK, ⟨Hg, Hh⟩, Hs, Hi⟩
  imod (Rounds.cell_close ER (sched (val m ρ)) (Set.mem_univ (K (c, some (false, x)))) (fun h => h) (R := 0 + 1) (duties_later (val m ρ) (goneCell x c))) $$ [Hg] with Hzg
  · isplitr; · iapply (known_inv (val m ρ) K (c, some (false, x))); iexact HK
    iexact Hg
  imod (Rounds.cell_close ER (sched (val m ρ)) (Set.mem_univ (K (c, some (true, x)))) (fun h => h) (R := 0 + 1) (duties_later (val m ρ) (hereCell x c))) $$ [Hh] with Hzh
  · isplitr; · iapply (known_inv (val m ρ) K (c, some (true, x))); iexact HK
    iexact Hh
  imodintro
  isplitl [Hzg Hzh]
  · isplitl [Hzg] <;> iassumption
  isplitl [Hs]
  · iapply (part_spare c (outM x.1) (rS x.2) _); iexact Hs
  · iapply (part_spare c (inM x.1) (rS x.2) _); iexact Hi

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All steps closed. -/
theorem close_all (K : Dev nD × Y → ℕ) (c : Dev nD) :
    iprop(known (val m ρ) K ∗ atPos ER (barCell c) (0 + 1) ∅ 0 ∗ bigSep Finset.univ fun x : X => spent m ρ x c)
      ⊢ iprop(|={Set.univ}=> Φ₁ c : sProp 𝕄) := by
  iintro ⟨#HK, Hb, HS⟩
  imod (Rounds.cell_close ER (sched (val m ρ)) (Set.mem_univ (K (c, none))) (fun h => h) (R := 0 + 1) (duties_later (val m ρ) (barCell c))) $$ [Hb] with Hzb
  · isplitr; · iapply (known_inv (val m ρ) K (c, none)); iexact HK
    iexact Hb
  imod ((with_known (R := known (val m ρ) K) fun x (_ : x ∈ (Finset.univ : Finset X)) => close_step m ρ K c x).trans (bigSep_fupd _ _)) $$ [HS] with H
  · isplitr; · iexact HK
    iexact HS
  imodintro
  unfold Φ₁ zeros slots
  rw [bigSep_Y]
  simp only [bigSep_sep']
  icases H with ⟨⟨Hg, Hh⟩, Hs, Hi⟩
  isplitl [Hzb Hg Hh]
  · isplitl [Hzb]; · iexact Hzb
    isplitl [Hg] <;> iassumption
  isplitl [Hs] <;> iassumption

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem owns_whole_eq (c : Dev nD) (b : Ref sig .tc) (x : b.ty.Contents (Elt F)) :
    (owns (Ix := Unit) (Name := ℕ) (U := UU) (Lvl := ℕ) (c : Thread nD τ) (Memref.whole b) fullShare x : sProp 𝕄)
      = iprop(∃ f : Buf (Elt F) (((c : Dev nD) : Thread nD τ).loc b), ⌜f = x⌝ ∗ (((c : Thread nD τ).loc b) ↦{fullShare} f)) := by
  unfold owns; simp only [Memref.view_whole, View.read_whole, View.set_whole]

/-- A staging buffer whole, at contents `x`. -/
abbrev stg (c : Dev nD) (b : Ref sig .tc) (x : b.ty.Contents (Elt F)) : sProp 𝕄 :=
  iprop(∃ f : Buf (Elt F) (((c : Dev nD) : Thread nD τ).loc b), ⌜f = x⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ c ∗ (dats m ρ 0 c).owesAt () t₀.succ ∗ stg c cc0_stg0_0 (inX m ρ c) ∗ stg c cc0_stg1_0 (inR m ρ c)
    ∗ stg c cc0_stg2_0 (inI m ρ c) ∗ stg c cc0_stg3_0 (inE m ρ c) ∗ stg c cc0_stg4_0 (outAt m ρ c))

theorem held_back (c : Dev nD) (b : Ref sig .tc) (x : b.ty.Contents (Elt F)) :
    (((c : Thread nD τ).loc b) ↦{fullShare} x : sProp 𝕄) ⊢ stg c b x := by
  iintro H; iexists x
  isplitr; · ipureintro; rfl
  iexact H

theorem whole_out (c : Dev nD) (f : Buf (Elt F) (((c : Dev nD) : Thread nD τ).loc cc0_stg4_0)) :
    ((oM.view.loc c) ↦[oM.view.set]{fullShare} f : sProp 𝕄) = (((c : Thread nD τ).loc cc0_stg4_0) ↦{fullShare} f) :=
  congrArg (fun S => (((c : Thread nD τ).loc cc0_stg4_0) ↦[S]{fullShare} f : sProp 𝕄)) (View.set_whole _)

theorem sound_body (c : Dev nD) : (bodyPre m ρ c) ⊢ run c (onBufs (cc0_body (F := F))) (fun _ => bodyPost m ρ c) := by
  unfold bodyPre Φ₀ start ghost creds slots
  iintro ⟨⟨⟨⟨%K, #HK, ⟨Hab, Hag, Hah⟩, ⟨Hb0, Hb1⟩, Htg, Hth⟩, ⟨Hcb, Hch⟩⟩, Hs, Hi⟩, Ho, ⟨%d0, %g0, %h0, Hx⟩, ⟨%d1, %g1, %h1, Hr⟩, ⟨%d2, %g2, %h2, Hn⟩, ⟨%d3, %g3, %h3, He⟩, ⟨%d4, %g4, %h4, Hout⟩⟩
  have e0 : g0 = inX m ρ c := by rw [h0]; unfold Dat.before; rw [if_pos (fetch0_0 t₀)]; rfl
  have e1 : g1 = inR m ρ c := by rw [h1]; unfold Dat.before; rw [if_pos (fetch0_1 t₀)]; rfl
  have e2 : g2 = inI m ρ c := by rw [h2]; unfold Dat.before; rw [if_pos (fetch0_2 t₀)]; rfl
  have e3 : g3 = inE m ρ c := by rw [h3]; unfold Dat.before; rw [if_pos (fetch0_3 t₀)]; rfl
  subst e0 e1 e2 e3
  unfold Dat.owesAt Pipeline.owesWithin
  icases Ho with ⟨%W, %hW, HW⟩
  rw [show (dats m ρ 0 c).owed t₀.castSucc = dues₀ c from rfl]
  ihave Hl := (landing_split c) $$ Hi
  icases Hl with ⟨Hl0, Hl1⟩
  ihave HO := (show (((c : Thread nD τ).loc cc0_stg4_0) ↦{fullShare} g4 : sProp 𝕄) ⊢ bigSep Finset.univ fun k : Fin 4 => spare c oM (rO k) from by
    refine BIBase.Entails.trans ?_ (cut_spare c oM rO rows_cut)
    iintro H; iexists g4
    iapply (Entails.of_eq (whole_out c g4).symm); iexact H) $$ Hout
  iapply (wp_fupd _ _ _ _ _)
  iapply (run_body m ρ K c W) $$ HK Hb0 Hb1 Hcb Hab [Hag Hah Hch Hs Htg Hth] Hl0 Hl1 HW [Hx] [Hr] [Hn] [He] HO
  · unfold gear; simp only [bigSep_sep']
    isplitl [Hag Hah]
    · isplitl [Hag] <;> iassumption
    isplitl [Hch]; · iexact Hch
    isplitl [Hs]; · iexact Hs
    isplitl [Htg] <;> iassumption
  · unfold held; iexact Hx
  · unfold held; iexact Hr
  · unfold held; iexact Hn
  · unfold held; iexact He
  iintro Hx Hr Hn He HO Hab HS HW
  unfold owing
  icases HW with ⟨%W', HW⟩
  ihave Hj := (join_part c oM rO rows_cut (f₀ := outAt m ρ c) (twice m ρ c)) $$ HO
  icases Hj with ⟨%f, %hf, HO⟩
  have hfo : f = outAt m ρ c := out_of_chunks m ρ c f hf
  subst hfo
  imod (close_all m ρ K c) $$ [Hab HS] with HΦ
  · isplitr; · iexact HK
    isplitl [Hab] <;> iassumption
  imodintro
  unfold bodyPost
  unfold held
  isplitl [HΦ]; · iexact HΦ
  isplitl [HW]
  · unfold Dat.owesAt Pipeline.owesWithin
    iexists W'
    isplitr; · ipureintro; exact fun _ _ => Or.inl trivial
    iexact HW
  isplitl [Hx]; · iapply (held_back c cc0_stg0_0 _); iexact Hx
  isplitl [Hr]; · iapply (held_back c cc0_stg1_0 _); iexact Hr
  isplitl [Hn]; · iapply (held_back c cc0_stg2_0 _); iexact Hn
  isplitl [He]; · iapply (held_back c cc0_stg3_0 _); iexact He
  iapply (held_back c cc0_stg4_0 _)
  iapply (Entails.of_eq (whole_out c _)); iexact HO

/-- What the pipeline rule asks about the body. -/
theorem body_obligation (c : Dev nD) : BodyObligation (dats m ρ 0 c) (defs₀ (F := F)) 𝒱₀ () Set.univ := fun t => by
  rw [fin_N t]
  rw [bigSep_W, bigSep_W]
  simp only [owns_whole_eq]
  exact sound_body m ρ c

end Cert.Moe

end
-- ==== Proof.Moe.Launch.lean ====
/-
# `Launch`: the exchange dealt to the devices, and the run of `@main`

The launch mints one cell per device and counter, with a token for each duty. A duty is paid by another device than the
one whose cell it is, so the tokens travel along the partner maps. Every step of this file is uniform in the step `x`.
-/
module

public import proofs.«01_k».proof.Proof.Moe.Data
public import Idealize.ShloMosaic.Lib.Pipeline.CollectiveSegs

@[expose] public section

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores. -/
abbrev osem (y : XC) : SemLoc sig := .dma (xsem y)

theorem osem_facts : Pipeline.OwnSemFacts cfg0.spec osem := by decide

theorem share_full (c : Dev nD) (w : Fin cfg0.W) : (dats m ρ 0 c).share w = fullShare := by unfold Dat.share; split <;> rfl

/-! ## Cells and tokens -/

theorem csem_injective : Function.Injective csem := by
  intro y y' h
  rcases y with _ | y <;> rcases y' with _ | y'
  · rfl
  · cases h
  · cases h
  · have hq : xsem y = xsem y' := SemLoc.dma.inj h
    have := congrArg which hq
    rwa [which_xsem, which_xsem] at this

theorem cell_injective : Function.Injective (fun p : Dev nD × Y => cell p.1 p.2) := by
  rintro ⟨c, y⟩ ⟨c', y'⟩ h
  have h1 : c = c' := congrArg (fun g : GSem nD τ sig => g.1.1) h
  have h2 : y = y' := csem_injective (congrArg Prod.snd h)
  rw [h1, h2]

/-- The duties of one device's cells: its barrier's two, and one per counter. -/
abbrev J : Type := Bool ⊕ XC
/-- The cell of a duty, and its name there. -/
abbrev site : J → Y × Bool := Sum.elim (fun d => (none, d)) (fun y => (some y, false))
theorem site_injective : Function.Injective site := by
  rintro (d | y) (d' | y') h
  · exact congrArg Sum.inl (congrArg Prod.snd h)
  · cases congrArg Prod.fst h
  · cases congrArg Prod.fst h
  · exact congrArg Sum.inr (Option.some.inj (congrArg Prod.fst h))

theorem token_injective : Function.Injective (fun p : Dev nD × J => ((cell p.1 (site p.2).1, 0, (site p.2).2) : GSem nD τ sig × ℕ × Bool)) := by
  rintro ⟨c, j⟩ ⟨c', j'⟩ h
  have h1 : (c, (site j).1) = (c', (site j').1) := cell_injective (congrArg Prod.fst h)
  have h2 : (site j).2 = (site j').2 := congrArg (fun t : GSem nD τ sig × ℕ × Bool => t.2.2) h
  have h3 : j = j' := site_injective (Prod.ext (congrArg Prod.snd h1) h2)
  have h4 : c = c' := congrArg Prod.fst h1
  rw [h4, h3]

def cells : Finset (GSem nD τ sig) := Finset.univ.map ⟨_, cell_injective⟩
def tokens : Finset (GSem nD τ sig × ℕ × Bool) := Finset.univ.map ⟨_, token_injective⟩

def u₀ : UU :=
  (initOf (Pipeline.cells cfgs cellOf_inj) (Pipeline.launchToks cfgs cellOf_inj), initOf cells tokens)

/-- The tokens of device `c`'s own cells. -/
def minted (c : Dev nD) : sProp 𝕄 :=
  iprop((dutyTok ER (barCell c) 0 false ∗ dutyTok ER (barCell c) 0 true)
    ∗ (bigSep Finset.univ fun x : X => dutyTok ER (goneCell x c) 0 false) ∗ bigSep Finset.univ fun x : X => dutyTok ER (hereCell x c) 0 false)

/-- What the launch element deals device `c`. -/
def G (c : Dev nD) : sProp 𝕄 :=
  iprop((bigSep Finset.univ fun y : Y => roundState ER (sched (val m ρ)) (cell c y) 0)
    ∗ ((bigSep Finset.univ fun y : Y => atPos ER (cell c y) 0 ∅ 0) ∗ bigSep Finset.univ fun y : Y => reached ER (cell c y) 0) ∗ minted c)

/-- What it holds once the cells are invariants. -/
def G' (c : Dev nD) : sProp 𝕄 :=
  iprop(∃ K : Dev nD × Y → ℕ, ((bigSep Finset.univ fun p : Dev nD × Y => cellInv ER (sched (val m ρ)) (K p) (cell p.1 p.2))
    ∗ bigSep Finset.univ fun p : Dev nD × Y => reached ER (cell p.1 p.2) 0) ∗ ghost c)

theorem minted_eq (c : Dev nD) : (bigSep Finset.univ fun j : J => (dutyTok ER (cell c (site j).1) 0 (site j).2 : sProp 𝕄)) = minted c := by
  unfold minted
  rw [BI.bigSep_univ_sum, bigSep_univ_eq_bigSepL [false, true] (by decide) (by decide), bigSepL_cons_cons, bigSepL_singleton]
  refine congrArg (fun P => iprop((dutyTok ER (barCell c) 0 false ∗ dutyTok ER (barCell c) 0 true) ∗ P)) ?_
  rw [bigSep_univ_prod (fun y : XC => (dutyTok ER (cell c (site (.inr y)).1) 0 (site (.inr y)).2 : sProp 𝕄)),
    bigSep_univ_eq_bigSepL [false, true] (by decide) (by decide), bigSepL_cons_cons, bigSepL_singleton]
  rfl

theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun y : Y => Φ (cell c y) := by
    unfold cells; rw [bigSep_map, bigSep_univ_prod]; rfl
  have hT : bigSep tokens (fun x => (dutyTok ER x.1 x.2.1 x.2.2 : sProp 𝕄)) = bigSep Finset.univ fun c : Dev nD => minted c := by
    unfold tokens; rw [bigSep_map, bigSep_univ_prod]
    exact bigSep_congr fun c _ => minted_eq c
  iintro HX
  imod (Rounds.fund ER (sched (val m ρ)) cells tokens) $$ HX with ⟨Hst, Hr, Hat, Htok⟩
  imodintro
  ihave Hst := (Entails.of_eq (hX fun g => roundState ER (sched (val m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  have hs : (Finset.univ.erase none : Finset Y) = Finset.univ.map Function.Embedding.some := by decide
  have hu : (unscopedSems0 c : sProp 𝕄) = semVal (barCell c) 0 := by
    unfold unscopedSems0; rw [bigSep_eq_bigSepL_of_eq [SemLoc.reg barrier0] (by decide) (by decide)]; rfl
  unfold zeros Pipeline.ownSems0
  rw [bigSep_univ_at _ none, hs, bigSep_map, hu]
  rfl

/-- One device's cells made invariants. -/
theorem alloc_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun y : Y => iprop(∃ κ : ℕ, cellInv ER (sched (val m ρ)) κ (cell c y)))
          ∗ ((bigSep Finset.univ fun y : Y => atPos ER (cell c y) 0 ∅ 0) ∗ bigSep Finset.univ fun y : Y => reached ER (cell c y) 0) ∗ minted c) := by
  unfold G
  iintro ⟨Hos, Hus, Hst, Hat, Htok⟩
  ihave Hv := (Entails.of_eq (zeros_eq c).symm) $$ [Hos Hus]
  · isplitl [Hus] <;> iassumption
  unfold zeros
  imod (show iprop((bigSep Finset.univ fun y : Y => semVal (cell c y) 0) ∗ bigSep Finset.univ fun y : Y => roundState ER (sched (val m ρ)) (cell c y) 0)
      ⊢ (|={Set.univ}=> bigSep Finset.univ fun y : Y => iprop(∃ κ : ℕ, cellInv ER (sched (val m ρ)) κ (cell c y)) : sProp 𝕄) from by
        rw [← bigSep_sep']
        exact (bigSep_mono fun y _ => (Rounds.body_intro ER (sched (val m ρ)) (cell c y)).trans inv_alloc).trans (bigSep_fupd _ _)) $$ [Hv Hst] with Hinv
  · isplitl [Hv] <;> iassumption
  imodintro
  isplitl [Hinv]; · iexact Hinv
  isplitl [Hat]; · iexact Hat
  iexact Htok

/-- A partner map as a permutation of the devices. -/
def swap (d : Bool) : Dev nD ≃ Dev nD := ⟨mate d, mate d, mate_mate d, mate_mate d⟩

theorem around (Φ : X → Dev nD → sProp 𝕄) : (bigSep Finset.univ fun c : Dev nD => bigSep Finset.univ fun x : X => Φ x c)
    = bigSep Finset.univ fun c : Dev nD => bigSep Finset.univ fun x : X => Φ x (peer x c) := by
  rw [Pipeline.bigSep_univ_comm, Pipeline.bigSep_univ_comm fun (c : Dev nD) (x : X) => Φ x (peer x c)]
  exact bigSep_congr fun x _ => bigSep_univ_equiv (swap (side x)) (Φ x)

/-- The positions and tokens, each token where its duty is paid. -/
theorem ghost_all : iprop((bigSep Finset.univ fun c : Dev nD => bigSep Finset.univ fun y : Y => (atPos ER (cell c y) 0 ∅ 0 : sProp 𝕄))
    ∗ bigSep Finset.univ fun c : Dev nD => minted c) ⊢ bigSep Finset.univ fun c : Dev nD => (ghost c : sProp 𝕄) := by
  unfold minted ghost
  simp only [bigSep_sep', bigSep_Y]
  rw [bigSep_univ_equiv (swap false) (fun c : Dev nD => (dutyTok ER (barCell c) 0 false : sProp 𝕄)),
    bigSep_univ_equiv (swap true) (fun c : Dev nD => (dutyTok ER (barCell c) 0 true : sProp 𝕄)),
    around fun x c => (dutyTok ER (hereCell x c) 0 false : sProp 𝕄)]
  exact .rfl

theorem gather :
    (bigSep Finset.univ fun c : Dev nD => iprop((bigSep Finset.univ fun y : Y => iprop(∃ κ : ℕ, cellInv ER (sched (val m ρ)) κ (cell c y)))
          ∗ ((bigSep Finset.univ fun y : Y => atPos ER (cell c y) 0 ∅ 0) ∗ bigSep Finset.univ fun y : Y => reached ER (cell c y) 0) ∗ minted c) : sProp 𝕄)
      ⊢ bigSep Finset.univ (G' m ρ) := by
  simp only [bigSep_sep']
  rw [← bigSep_univ_prod (fun p : Dev nD × Y => iprop(∃ κ : ℕ, cellInv ER (sched (val m ρ)) κ (cell p.1 p.2))),
    ← bigSep_univ_prod (fun p : Dev nD × Y => (reached ER (cell p.1 p.2) 0 : sProp 𝕄))]
  iintro ⟨HI, ⟨Hat, #HR⟩, Htok⟩
  ihave HK := (BI.bigSep_exists_pi Finset.univ (fun (p : Dev nD × Y) (κ : ℕ) => (cellInv ER (sched (val m ρ)) κ (cell p.1 p.2) : sProp 𝕄))) $$ HI
  icases HK with ⟨%K, #HI⟩
  ihave HG := (ghost_all) $$ [Hat Htok]
  · isplitl [Hat] <;> iassumption
  iapply (with_known (R := iprop((bigSep Finset.univ fun p : Dev nD × Y => cellInv ER (sched (val m ρ)) (K p) (cell p.1 p.2))
    ∗ bigSep Finset.univ fun p : Dev nD × Y => reached ER (cell p.1 p.2) 0)) (Φ := fun c => ghost c) fun c _ => show _ ⊢ G' m ρ c by
      unfold G'
      iintro ⟨HP, HG⟩
      iexists K
      isplitl [HP] <;> iassumption)
  isplitr
  · isplitl; · iexact HI
    iexact HR
  · iexact HG

/-- The cells of all devices made invariants at once. -/
theorem global : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_cells m ρ c).trans (bigSep_fupd _ _)).trans (BI.fupd_mono (gather m ρ))

/-! ## The rights to wait -/

theorem credit_at (y : Y) (f : Dev nD → Dev nD) (hf : ∀ c, f (f c) = c) (n : ℕ) (c : Dev nD) :
    (Pipeline.launchCred (fun d => tallyAt (cell (f d) y) () n) c : sProp 𝕄) ⊢ cred (tallyAt (cell c y) () n) :=
  Pipeline.launchCred_tallyAt (csem y) f f hf hf () n c

theorem credit_list (c : Dev nD) (l : List X) (hl : l.Nodup) :
    (Pipeline.launchCred (fun d => dues d l) c : sProp 𝕄) ⊢ bigSep l.toFinset fun x => cred (tallyAt (hereCell x c) () N) := by
  induction l with
  | nil => exact Entails.of_eq (Pipeline.launchCred_zero c)
  | cons x l ih =>
    obtain ⟨hx, hl⟩ := List.nodup_cons.mp hl
    rw [List.toFinset_cons]
    refine BIBase.Entails.trans ?_ (Entails.of_eq (bigSep_insert (by rwa [List.mem_toFinset])).symm)
    show _ ⊢ iprop(_ ∗ _)
    iintro H
    ihave H := (show (Pipeline.launchCred (fun d => dues d (x :: l)) c : sProp 𝕄) ⊢ _ from
      Entails.of_eq (Pipeline.launchCred_add (fun d => dues d l) (fun d => tallyAt (hereCell x (peer x d)) () N) c)) $$ H
    icases H with ⟨Hl, Hx⟩
    isplitl [Hx]
    · iapply (credit_at (some (true, x)) (peer x) (peer_peer x) N c); iexact Hx
    · iapply (ih hl); iexact Hl

theorem creds_intro (c : Dev nD) : (Pipeline.launchCred dues₀ c : sProp 𝕄) ⊢ creds c := by
  unfold creds
  iintro H
  ihave H := (show (Pipeline.launchCred dues₀ c : sProp 𝕄) ⊢ _ from
    Entails.of_eq (Pipeline.launchCred_add dues₁ (fun d => tallyAt (barCell (mate false d)) () 1) c)) $$ H
  icases H with ⟨H, H0⟩
  ihave H := (show (Pipeline.launchCred dues₁ c : sProp 𝕄) ⊢ _ from
    Entails.of_eq (Pipeline.launchCred_add (fun d => dues d order) (fun d => tallyAt (barCell (mate true d)) () 1) c)) $$ H
  icases H with ⟨H, H1⟩
  ihave H0 := (credit_at none (mate false) (mate_mate false) 1 c) $$ H0
  ihave H1 := (credit_at none (mate true) (mate_mate true) 1 c) $$ H1
  isplitl [H0 H1]
  · rw [show (tallyAt (barCell c) () 2 : CellTallies nD τ sig Unit) = tallyAt (barCell c) () 1 + tallyAt (barCell c) () 1 from (tallyAt_add _ _ 1 1).symm]
    iapply (cred_add _ _).2
    isplitl [H0] <;> iassumption
  · iapply (show _ ⊢ bigSep Finset.univ fun x : X => (cred (tallyAt (hereCell x c) () N) : sProp 𝕄) from
      (credit_list c order (by decide)).trans (Entails.of_eq (congrArg (fun S => bigSep S _) (show order.toFinset = Finset.univ by decide))))
    iexact H

/-! ## Into the call and out of it -/

theorem start_intro (c : Dev nD) :
    iprop(Pipeline.unscopedRestP Pipeline.Prefetch.none cfg0.spec c (fun b => m ((c : Thread nD τ).loc b)) ∗ levAts L lv
        ∗ Pipeline.launchCred dues₀ c ∗ prngReg c (ρ c) ∗ G' m ρ c)
      ⊢ |={Set.univ}=> iprop(start m ρ c ∗ emp) := by
  unfold G' start known
  iintro ⟨-, Hlev, Hcr, -, ⟨%K, ⟨HI, HR⟩, HG⟩⟩
  imodintro
  isplitl
  · isplitl [Hlev HI HR HG]
    · iexists K
      isplitl [Hlev HI HR]
      · isplitl [HI]; · iexact HI
        isplitl [HR] <;> iassumption
      iexact HG
    · iapply (creds_intro c); iexact Hcr
  · iempintro

/-- A scratch buffer cut into its slots, -/
theorem cut_scratch (c : Dev nD) (M : Memref sig .tc .vmem S4x128x512 .bf16) (hs : M.view.set = Finset.univ) :
    (iprop(∃ f : Buf (Elt F) (M.view.loc (c : Thread nD τ)), (M.view.loc (c : Thread nD τ)) ↦{fullShare} f) : sProp 𝕄)
      ⊢ bigSep Finset.univ fun k : Fin 4 => spare c M (rS k) := by
  refine BIBase.Entails.trans ?_ (cut_spare c M rS (slots_cut M))
  rw [hs]

/-- and put together from them. -/
theorem join_scratch (c : Dev nD) (M : Memref sig .tc .vmem S4x128x512 .bf16) (hs : M.view.set = Finset.univ)
    (f₀ : Buf (Elt F) (M.view.loc (c : Thread nD τ))) :
    (bigSep Finset.univ fun k : Fin 4 => (spare c M (rS k) : sProp 𝕄))
      ⊢ iprop(∃ f : Buf (Elt F) (M.view.loc (c : Thread nD τ)), (M.view.loc (c : Thread nD τ)) ↦{fullShare} f) := by
  haveI hne : ∀ k : Fin 4, Nonempty ((rS k).shape.Idx → Elt F .bf16) := fun k => ⟨(M.access (rS k)).read (Elt F) f₀⟩
  iintro H
  ihave H := (show (bigSep Finset.univ fun k : Fin 4 => (spare c M (rS k) : sProp 𝕄))
      ⊢ bigSep Finset.univ fun k : Fin 4 => iprop(∃ v : (rS k).shape.Idx → Elt F .bf16, part c M (rS k) v) from bigSep_mono fun k _ => show (spare c M (rS k) : sProp 𝕄) ⊢ iprop(∃ v : (rS k).shape.Idx → Elt F .bf16, part c M (rS k) v) by
    unfold spare part
    iintro ⟨%f, H⟩
    iexists ((M.access (rS k)).read (Elt F) f)
    iexists f
    isplitr; · ipureintro; rfl
    iexact H) $$ H
  ihave H := (BI.bigSep_exists_pi Finset.univ (fun (k : Fin 4) (v : (rS k).shape.Idx → Elt F .bf16) => (part c M (rS k) v : sProp 𝕄))) $$ H
  icases H with ⟨%v, H⟩
  ihave H := (join_part c M rS (slots_cut M) f₀ v) $$ H
  icases H with ⟨%f, -, H⟩
  rw [hs]
  iexists f; iexact H

theorem slots_eq (c : Dev nD) : (slots c : sProp 𝕄) = iprop(((bigSep Finset.univ fun k : Fin 4 => spare c (outM false) (rS k)) ∗ bigSep Finset.univ fun k : Fin 4 => spare c (outM true) (rS k))
    ∗ (bigSep Finset.univ fun k : Fin 4 => spare c (inM false) (rS k)) ∗ bigSep Finset.univ fun k : Fin 4 => spare c (inM true) (rS k)) := by
  unfold slots
  rw [bigSep_univ_prod (fun x : X => (spare c (outM x.1) (rS x.2) : sProp 𝕄)), bigSep_univ_prod (fun x : X => (spare c (inM x.1) (rS x.2) : sProp 𝕄)),
    bigSep_univ_eq_bigSepL [false, true] (by decide) (by decide), bigSep_univ_eq_bigSepL [false, true] (by decide) (by decide)]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [slots_eq]
  iintro ⟨Hs, -, H0, H1, H2, H3⟩
  isplitl [Hs]; · iexact Hs
  isplitl [H0 H2]
  · isplitl [H0]
    · iapply (cut_scratch c (outM false) (View.set_whole _)); iexact H0
    · iapply (cut_scratch c (outM true) (View.set_whole _)); iexact H2
  · isplitl [H1]
    · iapply (cut_scratch c (inM false) (View.set_whole _)); iexact H1
    · iapply (cut_scratch c (inM true) (View.set_whole _)); iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [slots_eq, zeros_eq]
  iintro ⟨⟨Hu, Ho⟩, ⟨H0, H2⟩, H1, H3⟩
  isplitl [Hu]; · iexact Hu
  isplitl [Ho]; · iexact Ho
  isplitl [H0]; · iapply (join_scratch c (outM false) (View.set_whole _) (m _)); iexact H0
  isplitl [H1]; · iapply (join_scratch c (inM false) (View.set_whole _) (m _)); iexact H1
  isplitl [H2]; · iapply (join_scratch c (outM true) (View.set_whole _) (m _)); iexact H2
  iapply (join_scratch c (inM true) (View.set_whole _) (m _)); iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each window's array after the run. -/
def endA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = endA m ρ c w

set_option maxRecDepth 8000 in
/-- From any memory with zero counters, over any float values, the four devices' run of `@main` ends, with every window's
    array at the computed contents and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := dues₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := global m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array is left as it was. -/
theorem end_arg (c : Dev nD) (w : Fin cfg0.W) (h : (cfg0.win w).isOut = false) : endA m ρ c w = (s₀ m ρ).mem ((cfg0.win w).arr.view.loc (c : Thread nD τ)) :=
  (dats (F := F) m ρ 0 c).arrAt_in w h _

end Cert.Moe

end
-- ==== Proof.Moe.Frames.lean ====
/-
# `Frames`: the three programs end, and leave their arguments and counters as they were
-/
module

public import proofs.«01_k».proof.Proof.Moe.Launch
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Moe

open Idealize.ShloMosaic Idealize.SL.Sem

/-- The kernel's run, its values dropped, over any float values. -/
theorem frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c =>
    ⟨(h.1 c 0).trans (end_arg m g c 0 rfl), (h.1 c 1).trans (end_arg m g c 1 rfl), (h.1 c 2).trans (end_arg m g c 2 rfl), (h.1 c 3).trans (end_arg m g c 3 rfl)⟩, h.2⟩)
    (run_main (F := F) m g)

theorem frame_kernel_ideal : Cert.quiescent_KernelIdeal (hKernelIdeal := Cert.KernelIdeal.Gen.facts) := fun m g _ => frame (F := Ideal) m g

/-- The kernel as printed has the same table of bodies, -/
theorem same_bodies {F : FTy → Type} [FloatOps F] : Cert.Kernel.defs₀ (F := F) = Cert.KernelIdeal.defs₀ (F := F) := by
  unfold Cert.Kernel.defs₀ Cert.KernelIdeal.defs₀
  refine congrArg (fun D => (Defs.onTc D : Defs Cert.KernelIdeal.nD Cert.KernelIdeal.τ Cert.KernelIdeal.sig (Elt F) Cert.KernelIdeal.Λ₀)) ?_
  funext ℓ a
  match ℓ, a with
  | 0, (t, s) => rfl

theorem same_defs {F : FTy → Type} [FloatOps F] : Cert.Kernel.defs (F := F) = Cert.KernelIdeal.defs (F := F) :=
  congrArg (fun D => (Pipeline.defs Cert.KernelIdeal.pcfgs D : Defs Cert.KernelIdeal.nD Cert.KernelIdeal.τ Cert.KernelIdeal.sig (Elt F) _)) same_bodies

/-- so its frame is the same run over bit patterns. -/
theorem frame_kernel : Cert.quiescent_Kernel (hKernel := Cert.Kernel.Gen.facts) := fun m g _ => by
  have h := frame (F := Bits) m g
  rw [← same_defs] at h
  exact h

/-- The reference declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Moe

end
-- ==== Proof.Moe.Gate.lean ====
/-
# `Gate`: the arithmetic of one token, over the extended reals

The scores of a token are real, so its probabilities are positive reals, and so are the shares of its two experts. Multiplying
a sum by a real that is not negative distributes over it even where the sum has infinite terms: weighting the inputs before an
expert's product is weighting the product.
-/
module

public import Idealize.ShloMosaic.PureOps.Ideal.Laws
public import Idealize.ShloMosaic.Lib.Pointwise

@[expose] public section

noncomputable section

namespace Cert.Moe

open Idealize.ShloMosaic

/-- A sum of reals, as an extended real, is the sum of them as extended reals. -/
theorem coe_sum {ι : Type} [DecidableEq ι] (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-! ## Probabilities -/

/-- The greatest score, as both programs fold it from −∞. -/
def best (s : Fin 8 → EReal) : EReal := Finset.univ.fold max (Ideal.ofBits .f32 0xFF800000#32) s
/-- The probability of an expert. -/
def soft (s : Fin 8 → EReal) (e : Fin 8) : EReal :=
  Ideal.div (Ideal.exp (s e - best s)) (∑ e' : Fin 8, Ideal.exp (s e' - best s))

theorem bits_bot : Ideal.ofBits .f32 0xFF800000#32 = (⊥ : EReal) := by simp [Ideal.ofBits, Ideal.ieee]
theorem bits_top : Ideal.ofBits .f32 0x7F800000#32 = (⊤ : EReal) := by simp [Ideal.ofBits, Ideal.ieee]

theorem best_real (σ : Fin 8 → ℝ) : ∃ μ : ℝ, best (fun e => (σ e : EReal)) = (μ : EReal) := by
  have hb : best (fun e => (σ e : EReal)) ≠ ⊥ := by
    refine ne_of_gt (lt_of_lt_of_le (EReal.bot_lt_coe (σ 0)) ?_)
    exact (Finset.le_fold_max _).2 (Or.inr ⟨0, Finset.mem_univ _, le_rfl⟩)
  have ht : best (fun e => (σ e : EReal)) ≠ ⊤ :=
    ne_of_lt ((Finset.fold_max_lt _).2 ⟨by rw [bits_bot]; exact bot_lt_top, fun e _ => EReal.coe_lt_top _⟩)
  exact ⟨_, (EReal.coe_toReal ht hb).symm⟩

/-- Of real scores, every probability is a positive real. -/
theorem soft_real (σ : Fin 8 → ℝ) : ∃ π : Fin 8 → ℝ, (∀ e, 0 < π e) ∧ soft (fun e => (σ e : EReal)) = fun e => (π e : EReal) := by
  obtain ⟨μ, hμ⟩ := best_real σ
  have hsum : 0 < ∑ e : Fin 8, Real.exp (σ e - μ) := Finset.sum_pos (fun e _ => Real.exp_pos _) Finset.univ_nonempty
  refine ⟨fun e => Real.exp (σ e - μ) * (1 / ∑ e' : Fin 8, Real.exp (σ e' - μ)), fun e => by positivity, ?_⟩
  have he : ∀ e, Ideal.exp ((σ e : EReal) - (μ : EReal)) = (Real.exp (σ e - μ) : EReal) := fun e => by
    rw [← EReal.coe_sub, Ideal.exp_coe]
  funext e
  unfold soft
  simp only [hμ, he, ← coe_sum]
  rw [Ideal.div_coe hsum.ne', ← EReal.coe_mul]

/-! ## Distributing -/

/-- A real that is not negative distributes over a sum of extended reals. -/
theorem real_mul_sum {ι : Type} [DecidableEq ι] (s : Finset ι) (w : ℝ) (hw : 0 ≤ w) (f : ι → EReal) :
    (w : EReal) * ∑ i ∈ s, f i = ∑ i ∈ s, (w : EReal) * f i := by
  induction s using Finset.induction_on with
  | empty => simp
  | insert a s ha ih =>
    rw [Finset.sum_insert ha, Finset.sum_insert ha, EReal.left_distrib_of_nonneg_of_ne_top (by exact_mod_cast hw) (EReal.coe_ne_top w), ih]

/-- The product of the weighted inputs is the weighted product. -/
theorem weighted (w : ℝ) (hw : 0 ≤ w) (x y : Fin 256 → EReal) :
    ∑ h : Fin 256, x h * (w : EReal) * y h = (w : EReal) * ∑ h : Fin 256, x h * y h := by
  rw [real_mul_sum _ w hw]
  exact Finset.sum_congr rfl fun h _ => by rw [mul_comm (x h), mul_assoc]

/-! ## One index against the eight experts -/

/-- Whether an index names expert `e`, as both programs compare. -/
def names (v : BitVec 32) (e : Fin 8) : BitVec 1 := IntOp.cmpi .eq v (BitVec.ofNat 32 e.val)

theorem names_eq (a e : Fin 8) : names (BitVec.ofNat 32 a.val) e = if e = a then 1#1 else 0#1 := by
  revert a e; decide

/-- An index in range is the word of an expert. -/
theorem word_of_range (v : BitVec 32) (h0 : IntOp.cmpi .sge v 0#32 = 1#1) (h8 : IntOp.cmpi .slt v 8#32 = 1#1) :
    ∃ a : Fin 8, v = BitVec.ofNat 32 a.val := by
  have bit : ∀ c : Bool, BitVec.ofBool c = 1#1 → c = true := by decide
  have h0' : BitVec.sle 0#32 v = true := bit _ h0
  have h8' : BitVec.slt v 8#32 = true := bit _ h8
  have hv : v.toNat < 8 := by
    rw [BitVec.sle_eq_decide, decide_eq_true_eq] at h0'
    rw [BitVec.slt_eq_decide, decide_eq_true_eq] at h8'
    have e8 : (8#32 : BitVec 32).toInt = 8 := by decide
    have e0 : (0#32 : BitVec 32).toInt = 0 := by decide
    rw [e8] at h8'; rw [e0] at h0'
    rw [BitVec.toInt_eq_toNat_cond] at h0' h8'
    split at h0' <;> omega
  exact ⟨⟨v.toNat, hv⟩, by simp⟩

/-- The reference's one-hot row, multiplied in and summed, reads the expert's entry. -/
theorem one_hot_sum (a : Fin 8) (f : Fin 8 → EReal) :
    ∑ e : Fin 8, (FloatOps.uitofp (F := Ideal) .f32 (names (BitVec.ofNat 32 a.val) e) : EReal) * f e = f a := by
  have h : ∀ e : Fin 8, (FloatOps.uitofp (F := Ideal) .f32 (names (BitVec.ofNat 32 a.val) e) : EReal) * f e = if e = a then f e else 0 := fun e => by
    rw [names_eq]
    show (((if e = a then 1#1 else 0#1 : BitVec 1).toNat : ℝ) : EReal) * f e = _
    by_cases he : e = a <;> simp [he]
  rw [Finset.sum_congr rfl fun e _ => h e]
  simp

/-! ## The shares -/

/-- An expert's share as the kernel computes it: its probability if chosen, over the sum of the chosen ones'. -/
def share (u v : BitVec 32) (p : Fin 8 → EReal) (e : Fin 8) : EReal :=
  Ideal.div (Scalar.select (IntOp.ori (names u e) (names v e)) (p e) 0) (∑ e' : Fin 8, Scalar.select (IntOp.ori (names u e') (names v e')) (p e') 0)

/-- The token's result as the reference computes it. -/
def mixed (u v : BitVec 32) (p y : Fin 8 → EReal) : EReal :=
  Ideal.div (∑ e, (FloatOps.uitofp (F := Ideal) .f32 (names u e) : EReal) * p e)
      ((∑ e, (FloatOps.uitofp (F := Ideal) .f32 (names u e) : EReal) * p e) + ∑ e, (FloatOps.uitofp (F := Ideal) .f32 (names v e) : EReal) * p e)
    * (∑ e, (FloatOps.uitofp (F := Ideal) .f32 (names u e) : EReal) * y e)
  + Ideal.div (∑ e, (FloatOps.uitofp (F := Ideal) .f32 (names v e) : EReal) * p e)
      ((∑ e, (FloatOps.uitofp (F := Ideal) .f32 (names u e) : EReal) * p e) + ∑ e, (FloatOps.uitofp (F := Ideal) .f32 (names v e) : EReal) * p e)
    * (∑ e, (FloatOps.uitofp (F := Ideal) .f32 (names v e) : EReal) * y e)

theorem select_names (a b e : Fin 8) (p : EReal) :
    Scalar.select (IntOp.ori (names (BitVec.ofNat 32 a.val) e) (names (BitVec.ofNat 32 b.val) e)) p 0 = if e = a ∨ e = b then p else 0 := by
  rw [names_eq, names_eq]
  by_cases ha : e = a
  · rw [if_pos ha, if_pos (Or.inl ha)]
    by_cases hb : e = b
    · rw [if_pos hb]; rfl
    · rw [if_neg hb]; rfl
  · rw [if_neg ha]
    by_cases hb : e = b
    · rw [if_pos hb, if_pos (Or.inr hb)]; rfl
    · rw [if_neg hb, if_neg (by tauto)]; rfl

/-- A sum over the experts of which only the two chosen count. -/
theorem sum_two {M : Type} [AddCommMonoid M] (a b : Fin 8) (f : Fin 8 → M) :
    ∑ e : Fin 8, (if e = a ∨ e = b then f e else 0) = if a = b then f a else f a + f b := by
  have hf : Finset.univ.filter (fun e : Fin 8 => e = a ∨ e = b) = {a, b} := by ext e; simp
  rw [← Finset.sum_filter, hf]
  split
  · next h => subst h; simp
  · next h => exact Finset.sum_pair h

/-- The shares are reals, not negative. -/
theorem share_real (a b : Fin 8) (π : Fin 8 → ℝ) (hπ : ∀ e, 0 < π e) (e : Fin 8) :
    share (BitVec.ofNat 32 a.val) (BitVec.ofNat 32 b.val) (fun e => (π e : EReal)) e
      = (((if e = a ∨ e = b then π e else 0) * (1 / ∑ e' : Fin 8, if e' = a ∨ e' = b then π e' else 0) : ℝ) : EReal) := by
  have hc : ∀ e : Fin 8, (if e = a ∨ e = b then (π e : EReal) else 0) = ((if e = a ∨ e = b then π e else 0 : ℝ) : EReal) := fun e => by
    split <;> simp
  have hpos : 0 < ∑ e' : Fin 8, (if e' = a ∨ e' = b then π e' else 0) :=
    Finset.sum_pos' (fun i _ => by split <;> [exact (hπ i).le; exact le_rfl]) ⟨a, Finset.mem_univ _, by simpa using hπ a⟩
  unfold share
  simp only [select_names, hc, ← coe_sum]
  rw [Ideal.div_coe hpos.ne', ← EReal.coe_mul]

/-- The experts' weighted products add up to the reference's mixture of the two chosen ones. -/
theorem mixture (a b : Fin 8) (π : Fin 8 → ℝ) (hπ : ∀ e, 0 < π e) (x : Fin 256 → EReal) (W : Fin 8 → Fin 256 → EReal) :
    ∑ e : Fin 8, ∑ h : Fin 256, x h * share (BitVec.ofNat 32 a.val) (BitVec.ofNat 32 b.val) (fun e => (π e : EReal)) e * W e h
      = mixed (BitVec.ofNat 32 a.val) (BitVec.ofNat 32 b.val) (fun e => (π e : EReal)) (fun e => ∑ h : Fin 256, x h * W e h) := by
  have hnn : ∀ e : Fin 8, 0 ≤ (if e = a ∨ e = b then π e else 0) * (1 / ∑ e' : Fin 8, if e' = a ∨ e' = b then π e' else 0) := fun e =>
    mul_nonneg (by split <;> [exact (hπ e).le; exact le_rfl])
      (one_div_nonneg.2 (Finset.sum_nonneg fun i _ => by split <;> [exact (hπ i).le; exact le_rfl]))
  have hl : ∀ e : Fin 8, ∑ h : Fin 256, x h * share (BitVec.ofNat 32 a.val) (BitVec.ofNat 32 b.val) (fun e => (π e : EReal)) e * W e h
      = (((if e = a ∨ e = b then π e else 0) * (1 / ∑ e' : Fin 8, if e' = a ∨ e' = b then π e' else 0) : ℝ) : EReal) * ∑ h : Fin 256, x h * W e h := fun e => by
    rw [share_real a b π hπ e]
    exact weighted _ (hnn e) x (W e)
  rw [Finset.sum_congr rfl fun e _ => hl e]
  set y : Fin 8 → EReal := fun e => ∑ h : Fin 256, x h * W e h with hy
  show ∑ e : Fin 8, (((if e = a ∨ e = b then π e else 0) * (1 / ∑ e' : Fin 8, if e' = a ∨ e' = b then π e' else 0) : ℝ) : EReal) * y e = _
  clear_value y
  unfold mixed
  rw [one_hot_sum, one_hot_sum, one_hot_sum, one_hot_sum, ← EReal.coe_add, Ideal.div_coe (by have := hπ a; have := hπ b; positivity),
    Ideal.div_coe (by have := hπ a; have := hπ b; positivity), ← EReal.coe_mul, ← EReal.coe_mul]
  have hz : ∀ (e : Fin 8) (q : ℝ), (((if e = a ∨ e = b then π e else 0) * q : ℝ) : EReal) * y e = if e = a ∨ e = b then ((π e * q : ℝ) : EReal) * y e else 0 := fun e q => by
    split <;> simp
  rw [Finset.sum_congr rfl fun e _ => hz e _, sum_two, sum_two]
  by_cases hab : a = b
  · subst hab
    have hp := (hπ a).ne'
    rw [if_pos rfl, if_pos rfl, ← EReal.right_distrib_of_nonneg (by have := hπ a; exact_mod_cast (by positivity)) (by have := hπ a; exact_mod_cast (by positivity)), ← EReal.coe_add]
    congr 2
    field_simp
  · rw [if_neg hab, if_neg hab]

end Cert.Moe
-- ==== Proof.Moe.Entries.lean ====
/-
# `Entries`: a device's rows, entry by entry

The rows a device computes for its two experts, read at a token and an output, over the extended reals: the token's inputs
weighted by the expert's share, times the expert's weights.
-/
module

public import proofs.«01_k».proof.Proof.Moe.Values
public import proofs.«01_k».proof.Proof.Moe.Gate

@[expose] public section

noncomputable section

namespace Cert.Moe

open Cert.KernelIdeal Cert.KernelIdeal.Gen
open Idealize.ShloMosaic Idealize.ShloMosaic.TcCoe Idealize.SL.Sem

/-- The scores of a token. -/
def score (x : (⟨2, ![512, 256]⟩ : Shape).Idx → EReal) (r : (⟨2, ![256, 8]⟩ : Shape).Idx → EReal) (t : Fin 512) : Fin 8 → EReal :=
  fun e => ∑ h : Fin 256, x (ix2 t h) * r (ix2 h e)

theorem probs_apply (x : Vec Ideal S512x256 .f32) (r : Vec Ideal S256x8 .f32) (t : Fin 512) (e : Fin 8) :
    k0_pay2 x r (ix2 t e) = soft (score x r t) e := by
  pointwise [k0_pay2, k0_pay1]
  rfl

theorem chosen_apply (u v : Vec Ideal S512x1 .i32) (t : Fin 512) (e : Fin 8) :
    k0_pay3 (F := Ideal) u v (ix2 t e) = IntOp.ori (names (u (ix2 t 0)) e) (names (v (ix2 t 0)) e) := by
  pointwise [k0_pay3]
  rfl

theorem share_apply (x : Vec Ideal S512x256 .f32) (r : Vec Ideal S256x8 .f32) (u v : Vec Ideal S512x1 .i32) (t : Fin 512) (e : Fin 8) :
    k0_pay5 (F := Ideal) (k0_pay2 x r) (k0_pay3 (F := Ideal) u v) k0_pay4 (ix2 t e) = share (u (ix2 t 0)) (v (ix2 t 0)) (soft (score x r t)) e := by
  pointwise [k0_pay5, k0_pay4, probs_apply, chosen_apply]
  rfl

/-- A sum over the lanes that keeps one of them. -/
theorem lane_sum (a : Fin 8) (f : Fin 8 → EReal) :
    ∑ e : Fin 8, Scalar.select (IntOp.cmpi .eq (BitVec.ofNat 32 e.val) (BitVec.ofNat 32 a.val)) (f e) 0 = f a := by
  have h : ∀ e : Fin 8, IntOp.cmpi .eq (BitVec.ofNat 32 e.val) (BitVec.ofNat 32 a.val) = if e = a then 1#1 else 0#1 := by
    revert a; decide
  have h' : ∀ e : Fin 8, Scalar.select (IntOp.cmpi .eq (BitVec.ofNat 32 e.val) (BitVec.ofNat 32 a.val)) (f e) 0 = if e = a then f e else 0 := fun e => by
    rw [h e]
    split <;> rfl
  rw [Finset.sum_congr rfl fun e _ => h' e]
  simp

/-- The two experts of a device. -/
def expertOf (c : Dev nD) (j : Fin 2) : Fin 8 := ⟨2 * c.val + j.val, by have : c.val < 4 := c.isLt; omega⟩

theorem first_word (c : Dev nD) : Scalar.muli 2#32 (place c) = BitVec.ofNat 32 (expertOf c 0).val := by
  revert c; decide
theorem second_word (c : Dev nD) : Scalar.addi (Scalar.muli 2#32 (place c)) 1#32 = BitVec.ofNat 32 (expertOf c 1).val := by
  revert c; decide

variable (m : (ℓ : Loc nD τ sig) → Buf (Elt Ideal) ℓ) (ρ : Dev nD → PrngReg)

/-- The inputs and the weights of one of its experts, entry by entry. -/
def inAt (c : Dev nD) (t : Fin 512) (h : Fin 256) : EReal := (inX m ρ c : FVec Ideal S512x256 .f32) (ix2 t h)
def weightAt (c : Dev nD) (j : Fin 2) (h : Fin 256) (o : Fin 512) : EReal := (expert m ρ c j : FVec Ideal S1x256x512 .f32) (ix3 0 h o)

/-- A token's share of an expert, as device `c` computes it. -/
def shareAt (c : Dev nD) (t : Fin 512) (e : Fin 8) : EReal :=
  share (pick m ρ c 0 (ix2 t 0)) (pick m ρ c 1 (ix2 t 0)) (soft (score (inX m ρ c) (inR m ρ c) t)) e

theorem actA_apply (c : Dev nD) (t : Fin 512) (h : Fin 256) :
    actA m ρ c (ix2 t h) = inAt m ρ c t h * shareAt m ρ c t (expertOf c 0) := by
  unfold actA
  pointwise [k0_pay6, k0_pay1]
  rw [first_word]
  simp only [share_apply]
  exact congrArg _ (lane_sum _ _)

theorem actB_apply (c : Dev nD) (t : Fin 512) (h : Fin 256) :
    actB m ρ c (ix2 t h) = inAt m ρ c t h * shareAt m ρ c t (expertOf c 1) := by
  unfold actB
  pointwise [k0_pay7, k0_pay1]
  rw [second_word]
  simp only [share_apply]
  exact congrArg _ (lane_sum _ _)

theorem wgtA_apply (c : Dev nD) (h : Fin 256) (o : Fin 512) : wgtA m ρ c (ix2 h o) = weightAt m ρ c 0 h o := by
  unfold wgtA
  pointwise [k0_pay8]
  rfl
theorem wgtB_apply (c : Dev nD) (h : Fin 256) (o : Fin 512) : wgtB m ρ c (ix2 h o) = weightAt m ρ c 1 h o := by
  unfold wgtB
  pointwise [k0_pay9]
  rfl

/-- The two experts' products for a token. -/
def ownAt (c : Dev nD) (t : Fin 512) (o : Fin 512) : EReal :=
  (∑ h : Fin 256, inAt m ρ c t h * shareAt m ρ c t (expertOf c 0) * weightAt m ρ c 0 h o)
  + ∑ h : Fin 256, inAt m ρ c t h * shareAt m ρ c t (expertOf c 1) * weightAt m ρ c 1 h o

def rowOf (k : Fin 4) (r : Fin 128) : Fin 512 := ⟨128 * k.val + r.val, by omega⟩

theorem own_apply (c : Dev nD) (k : Fin 4) (r : Fin 128) (o : Fin 512) : own m ρ c k (ix2 r o) = ownAt m ρ c (rowOf k r) o := by
  match k with
  | 0 =>
    have ha : ∀ t h, k0_pay6 (place c) (xs m ρ c) (probs m ρ c) lane (chosen m ρ c) k0_pay4 (ix2 t h) = _ := actA_apply m ρ c
    have hb : ∀ t h, k0_pay7 (place c) (xs m ρ c) (probs m ρ c) lane (chosen m ρ c) k0_pay4 (ix2 t h) = _ := actB_apply m ρ c
    have hw : ∀ h o, k0_pay8 (expert m ρ c 0) (ix2 h o) = _ := wgtA_apply m ρ c
    have hv : ∀ h o, k0_pay9 (expert m ρ c 1) (ix2 h o) = _ := wgtB_apply m ρ c
    have hr : rowOf 0 r = ⟨r.val, by omega⟩ := Fin.ext (Nat.zero_add _)
    show k0_pay10 (place c) (xs m ρ c) (probs m ρ c) lane (chosen m ρ c) k0_pay4 (expert m ρ c 0) (expert m ρ c 1) (ix2 r o) = _
    unfold k0_pay10
    pointwise [ha, hb, hw, hv]
    rw [hr]
    rfl
  | 1 =>
    show k0_pay15 (actA m ρ c) (actB m ρ c) (wgtA m ρ c) (wgtB m ρ c) (ix2 r o) = _
    pointwise [k0_pay15, actA_apply, actB_apply, wgtA_apply, wgtB_apply]
    rfl
  | 2 =>
    show k0_pay13 (actA m ρ c) (actB m ρ c) (wgtA m ρ c) (wgtB m ρ c) (ix2 r o) = _
    pointwise [k0_pay13, actA_apply, actB_apply, wgtA_apply, wgtB_apply]
    rfl
  | 3 =>
    show k0_pay17 (actA m ρ c) (actB m ρ c) (wgtA m ρ c) (wgtB m ρ c) (ix2 r o) = _
    pointwise [k0_pay17, actA_apply, actB_apply, wgtA_apply, wgtB_apply]
    rfl

/-! ## The exchange adds the four devices up -/

theorem plus_apply (a b : FVec Ideal S128x512 .f32) (r : Fin 128) (o : Fin 512) :
    plus (F := Ideal) a (pack b) (ix2 r o) = a (ix2 r o) + b (ix2 r o) := by
  pointwise [plus, pack, k0_pay20]

/-- A device, its first partner, its second partner and that one's first partner are the four devices. -/
theorem four_devices (f : Dev nD → EReal) (k : Fin 4) (c : Dev nD) :
    (f c + f (peer (false, k) c)) + (f (peer (true, k) c) + f (peer (false, k) (peer (true, k) c))) = ∑ d : Dev nD, f d := by
  have hu : (Finset.univ : Finset (Dev nD)) = {c, peer (false, k) c, peer (true, k) c, peer (false, k) (peer (true, k) c)} := by
    revert k c; decide
  have h1 : c ∉ ({peer (false, k) c, peer (true, k) c, peer (false, k) (peer (true, k) c)} : Finset (Dev nD)) := by revert k c; decide
  have h2 : peer (false, k) c ∉ ({peer (true, k) c, peer (false, k) (peer (true, k) c)} : Finset (Dev nD)) := by revert k c; decide
  have h3 : peer (true, k) c ≠ peer (false, k) (peer (true, k) c) := by revert k c; decide
  rw [hu, Finset.sum_insert h1, Finset.sum_insert h2, Finset.sum_pair h3, add_assoc]

theorem twice_apply (c : Dev nD) (k : Fin 4) (r : Fin 128) (o : Fin 512) :
    twice m ρ c k (ix2 r o) = ∑ d : Dev nD, ownAt m ρ d (rowOf k r) o := by
  rw [← four_devices _ k c]
  unfold twice once
  rw [plus_apply, plus_apply, plus_apply, own_apply, own_apply, own_apply, own_apply]

theorem outAt_apply (c : Dev nD) (t : Fin 512) (o : Fin 512) :
    outAt m ρ c (ix2 t o) = ∑ d : Dev nD, ownAt m ρ d t o := by
  have ht : rowOf ⟨t.val / 128, by omega⟩ ⟨t.val % 128, by omega⟩ = t := Fin.ext (Nat.div_add_mod _ _)
  refine Eq.trans ?_ ((twice_apply m ρ c ⟨t.val / 128, by omega⟩ ⟨t.val % 128, by omega⟩ o).trans (by rw [ht]))
  refine congrArg (twice m ρ c ⟨t.val / 128, by omega⟩) ?_
  funext a
  fin_cases a <;> rfl

/-! ## What a device reads of its arguments -/

theorem inX_eq (c : Dev nD) : inX m ρ c = m ((c : Thread nD τ).loc main_arg0) := by
  funext x
  refine congrArg (m ((c : Thread nD τ).loc main_arg0)) ?_
  funext a
  apply Fin.ext
  fin_cases a
  · show 0 * 512 + 1 * (x 0).val = (x 0).val
    omega
  · show 0 * 256 + 1 * (x 1).val = (x 1).val
    omega

theorem inR_eq (c : Dev nD) : inR m ρ c = m ((c : Thread nD τ).loc main_arg1) := by
  funext x
  refine congrArg (m ((c : Thread nD τ).loc main_arg1)) ?_
  funext a
  apply Fin.ext
  fin_cases a
  · show 0 * 256 + 1 * (x 0).val = (x 0).val
    omega
  · show 0 * 8 + 1 * (x 1).val = (x 1).val
    omega

theorem inI_eq (c : Dev nD) : inI m ρ c = m ((c : Thread nD τ).loc main_arg2) := by
  funext x
  refine congrArg (m ((c : Thread nD τ).loc main_arg2)) ?_
  funext a
  apply Fin.ext
  fin_cases a
  · show 0 * 512 + 1 * (x 0).val = (x 0).val
    omega
  · show 0 * 2 + 1 * (x 1).val = (x 1).val
    omega

theorem inE_eq (c : Dev nD) : inE m ρ c = m ((c : Thread nD τ).loc main_arg3) := by
  funext x
  refine congrArg (m ((c : Thread nD τ).loc main_arg3)) ?_
  funext a
  apply Fin.ext
  fin_cases a
  · show 0 * 2 + 1 * (x 0).val = (x 0).val
    omega
  · show 0 * 256 + 1 * (x 1).val = (x 1).val
    omega
  · show 0 * 512 + 1 * (x 2).val = (x 2).val
    omega

theorem pick_apply (c : Dev nD) (j : Fin 2) (t : Fin 512) : pick m ρ c j (ix2 t 0) = inI m ρ c (ix2 t j) := by
  refine congrArg (inI m ρ c) ?_
  funext a
  apply Fin.ext
  fin_cases a
  · show 0 + 1 * t.val = t.val
    omega
  · show j.val + 1 * 0 = j.val
    omega

theorem expert_apply (c : Dev nD) (j : Fin 2) (h : Fin 256) (o : Fin 512) : weightAt m ρ c j h o = (inE m ρ c : FVec Ideal S2x256x512 .f32) (ix3 j h o) := by
  refine congrArg (inE m ρ c) ?_
  funext a
  apply Fin.ext
  fin_cases a
  · show j.val + 1 * 0 = j.val
    omega
  · show 0 + 1 * h.val = h.val
    omega
  · show 0 + 1 * o.val = o.val
    omega

end Cert.Moe
-- ==== Proof.Moe.Algebraic.lean ====
/-
# `Algebraic`: over the extended reals, the kernel's rows are the reference's

Every device ends with the sum over the four devices of their two experts' weighted products; the reference, read at an entry,
is the mixture of the token's two experts (`mixture`, in `Gate`).
-/
module

public import proofs.«01_k».proof.Proof.Moe.Frames
public import proofs.«01_k».proof.Proof.Moe.Entries
public import Idealize.ShloMosaic.Lib.Pipeline.ValueKit

@[expose] public section

set_option maxRecDepth 16384

noncomputable section

namespace Cert.Moe

open Cert.KernelIdeal Cert.KernelIdeal.Gen
open Idealize.ShloMosaic Idealize.ShloMosaic.TcCoe Idealize.SL.Sem

/-! ## The precondition, read -/

theorem pre_kernel : Cert.Pre_routed_KernelIdeal.Facts := ⟨by decide, by decide, by decide⟩
theorem pre_reference : Cert.Pre_routed_ReferenceIdeal.Facts := ⟨by decide, by decide, by decide⟩

theorem both_bits : ∀ a b : BitVec 1, IntOp.andi a b = 1#1 → a = 1#1 ∧ b = 1#1 := by decide

/-- A value strictly between the infinities is a real. -/
theorem real_of_between (a : EReal)
    (h : IntOp.andi (Ideal.cmp .ogt a (Ideal.ofBits .f32 0xFF800000#32)) (Ideal.cmp .olt a (Ideal.ofBits .f32 0x7F800000#32)) = 1#1) :
    ∃ r : ℝ, a = (r : EReal) := by
  rw [bits_bot, bits_top] at h
  have bit : ∀ c : Bool, BitVec.ofBool c = 1#1 → c = true := by decide
  obtain ⟨h1, h2⟩ := both_bits _ _ h
  have hb : ⊥ < a := of_decide_eq_true (bit _ h1)
  have ht : a < ⊤ := of_decide_eq_true (bit _ h2)
  exact ⟨_, (EReal.coe_toReal ht.ne hb.ne').symm⟩

/-- What the precondition says of the whole arrays. -/
structure Routed (x : S512x256.Idx → EReal) (r : S256x8.Idx → EReal) (i : S512x2.Idx → BitVec 32) : Prop where
  x_real : ∀ t h, ∃ v : ℝ, x (ix2 t h) = (v : EReal)
  r_real : ∀ h e, ∃ v : ℝ, r (ix2 h e) = (v : EReal)
  named : ∀ t j, ∃ a : Fin 8, i (ix2 t j) = BitVec.ofNat 32 a.val

theorem routed_of_pre (x : FVec Ideal S512x256 .f32) (r : FVec Ideal S256x8 .f32) (i : IVec S512x2 32) (w : FVec Ideal S2x256x512 .f32)
    (h : letI := pre_kernel
      (Cert.Pre_routed_KernelIdeal.fn (F := Ideal) x r i w).1 = (fun _ => 1#1)
      ∧ (Cert.Pre_routed_KernelIdeal.fn (F := Ideal) x r i w).2.1 = (fun _ => 1#1)
      ∧ (Cert.Pre_routed_KernelIdeal.fn (F := Ideal) x r i w).2.2 = (fun _ => 1#1)) : Routed x r i where
  x_real t k := real_of_between _ (congrFun h.1 (ix2 t k))
  r_real k e := real_of_between _ (congrFun h.2.1 (ix2 k e))
  named t j := by
    obtain ⟨h0, h8⟩ := both_bits _ _ (congrFun h.2.2 (ix2 t j))
    exact word_of_range _ h0 h8

/-- The scores of a token are reals. -/
theorem score_real {x : S512x256.Idx → EReal} {r : S256x8.Idx → EReal} {i : S512x2.Idx → BitVec 32} (h : Routed x r i) (t : Fin 512) :
    ∃ σ : Fin 8 → ℝ, score x r t = fun e => (σ e : EReal) := by
  choose xv hx using h.x_real t
  choose rv hr using h.r_real
  refine ⟨fun e => ∑ k : Fin 256, xv k * rv k e, ?_⟩
  funext e
  unfold score
  rw [coe_sum]
  exact Finset.sum_congr rfl fun k _ => by rw [hx, hr, EReal.coe_mul]

/-! ## The devices together -/

/-- The experts' sum is the devices' sum, two experts each. -/
theorem sum_experts (g : Fin 8 → EReal) : ∑ d : Dev nD, (g (expertOf d 0) + g (expertOf d 1)) = ∑ e : Fin 8, g e := by
  have h : ∑ d : Fin 4, (g (expertOf d 0) + g (expertOf d 1)) = ∑ e : Fin 8, g e := by
    rw [Fin.sum_univ_four, Fin.sum_univ_eight]
    show (g 0 + g 1) + (g 2 + g 3) + (g 4 + g 5) + (g 6 + g 7) = _
    ac_rfl
  exact h

/-- What the whole arrays make of an entry: the reference's mixture. -/
def entry (x : S512x256.Idx → EReal) (r : S256x8.Idx → EReal) (i : S512x2.Idx → BitVec 32) (w : (⟨3, ![8, 256, 512]⟩ : Shape).Idx → EReal) (t o : Fin 512) : EReal :=
  mixed (i (ix2 t 0)) (i (ix2 t 1)) (soft (score x r t)) fun e => ∑ h : Fin 256, x (ix2 t h) * w (ix3 e h o)

/-- One expert's addend of an entry, as the kernel forms it. -/
def addend (x : S512x256.Idx → EReal) (r : S256x8.Idx → EReal) (i : S512x2.Idx → BitVec 32) (w : (⟨3, ![8, 256, 512]⟩ : Shape).Idx → EReal) (t o : Fin 512)
    (e : Fin 8) : EReal :=
  ∑ k : Fin 256, x (ix2 t k) * share (i (ix2 t 0)) (i (ix2 t 1)) (soft (score x r t)) e * w (ix3 e k o)

/-- The block of the experts' weights a device holds starts at its first expert. -/
theorem block_entry (w : (⟨3, ![8, 256, 512]⟩ : Shape).Idx → EReal) (d : Fin 4) (j : Fin 2) (k : Fin 256) (o : Fin 512) :
    Layout.block ⟨3, ![2, 256, 512]⟩ ⟨3, ![8, 256, 512]⟩ 0 4 d w (by decide) (ix3 j k o) = w (ix3 (expertOf d j) k o) := by
  refine congrArg w ?_
  funext a
  apply Fin.ext
  fin_cases a
  · show d.val * 2 + j.val = 2 * d.val + j.val
    omega
  · rfl
  · rfl

section Kernel
variable (m : (ℓ : Loc nD τ sig) → Buf (Elt Ideal) ℓ) (ρ : Dev nD → PrngReg)

theorem out_entry {x : S512x256.Idx → EReal} {r : S256x8.Idx → EReal} {i : S512x2.Idx → BitVec 32} {w : (⟨3, ![8, 256, 512]⟩ : Shape).Idx → EReal}
    (h : Routed x r i) (hx : ∀ d, inX m ρ d = x) (hr : ∀ d, inR m ρ d = r) (hi : ∀ d, inI m ρ d = i)
    (hw : ∀ d j k o, (inE m ρ d : FVec Ideal S2x256x512 .f32) (ix3 j k o) = w (ix3 (expertOf d j) k o)) (c : Dev nD) (t o : Fin 512) :
    outAt m ρ c (ix2 t o) = entry x r i w t o := by
  obtain ⟨a, ha⟩ := h.named t 0
  obtain ⟨b, hb⟩ := h.named t 1
  obtain ⟨σ, hσ⟩ := score_real h t
  obtain ⟨π, hπ, hs⟩ := soft_real σ
  have hown : ∀ d, ownAt m ρ d t o
      = addend x r i w t o (expertOf d 0)
      + addend x r i w t o (expertOf d 1) := fun d => by
    unfold ownAt shareAt inAt addend
    simp only [expert_apply, hw, pick_apply, hx, hr, hi]
  rw [outAt_apply, Finset.sum_congr rfl fun d _ => hown d, sum_experts (addend x r i w t o)]
  unfold entry addend
  rw [ha, hb, hσ, hs]
  exact mixture a b π hπ (fun k => x (ix2 t k)) (fun e k => w (ix3 e k o))

/-- The result array ends at the rows computed. -/
theorem end_out (c : Dev nD) : endA m ρ c 4 = outAt m ρ c := by
  refine (dats m ρ 0 c).arrAt_eq_of_after_last 4 t₀ (by decide +kernel) _ fun j => ?_
  rfl

end Kernel

section Reference
open Cert.ReferenceIdeal.Gen

set_option maxHeartbeats 1000000 in
theorem ref_entry (m : (ℓ : Loc Cert.ReferenceIdeal.nD Cert.ReferenceIdeal.τ Cert.ReferenceIdeal.sig) → Buf (Elt Ideal) ℓ) (c : Dev Cert.ReferenceIdeal.nD) (t o : Fin 512) :
    (Cert.ReferenceIdeal.Value.res_main_v38 m c : FVec Ideal S512x512 .f32) (ix2 t o)
      = entry (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) t o := by
  pointwise [Cert.ReferenceIdeal.Value.res_main_v38]
  rfl

end Reference

theorem algebraic : Cert.algebraic_KernelIdeal_ReferenceIdeal_pre_routed_KernelIdeal (hKernelIdeal := Cert.KernelIdeal.Gen.facts)
    (hReferenceIdeal := Cert.ReferenceIdeal.Gen.facts) (hPre_routed_KernelIdeal := pre_kernel) := by
  intro m g m' g' hpre hagree
  refine ⟨Cert.ReferenceIdeal.Value.res_main_v38 m' 0, (θ_run Cert.KernelIdeal.defs _ _).mono (fun r h c => ?_) (run_main (F := Ideal) m g),
    (θ_run Cert.ReferenceIdeal.defs _ _).mono (fun r h => h 0) (Cert.ReferenceIdeal.Value.run (F := Ideal) m' g')⟩
  refine ⟨((h.1 c 4).trans (end_out m g c)).trans ?_, (h.1 c 0).trans (end_arg m g c 0 rfl), (h.1 c 1).trans (end_arg m g c 1 rfl),
    (h.1 c 2).trans (end_arg m g c 2 rfl), (h.1 c 3).trans (end_arg m g c 3 rfl)⟩
  have hrouted : Routed (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) := by
    have h0 := routed_of_pre _ _ _ _ (hpre c)
    rw [(hagree c).1, (hagree c).2.1, (hagree c).2.2.1] at h0
    exact h0
  funext p
  obtain ⟨t, o, rfl⟩ : ∃ t o : Fin 512, p = ix2 t o := ⟨p 0, p 1, by funext a; fin_cases a <;> rfl⟩
  refine (out_entry m g hrouted (fun d => (inX_eq m g d).trans (hagree d).1) (fun d => (inR_eq m g d).trans (hagree d).2.1)
    (fun d => (inI_eq m g d).trans (hagree d).2.2.1) (fun d j k e => ?_) c t o).trans (ref_entry m' 0 t o).symm
  exact (congrFun ((inE_eq m g d).trans (hagree d).2.2.2) (ix3 j k e)).trans (block_entry _ d j k e)

end Cert.Moe
-- ==== Proof.lean ====
/-
The proof of `Cert.Claim`: the frames are in `Proof/Moe/Frames.lean`, the value of the result in `Proof/Moe/Algebraic.lean`.
-/
module

public import proofs.«01_k».proof.Defs
public import proofs.«01_k».proof.Proof.Moe.Algebraic
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The frames hold of every start, so also of those the precondition admits. -/
theorem claim : Cert.Claim :=
  ⟨Cert.Kernel.Gen.facts, Cert.KernelIdeal.Gen.facts, Cert.ReferenceIdeal.Gen.facts, Cert.Moe.pre_kernel, Cert.Moe.pre_reference,
    Cert.Moe.frame_kernel, Cert.Moe.frame_kernel_ideal, fun m g _ => Cert.Moe.frame_kernel_ideal m g trivial,
    Cert.Moe.frame_reference, fun m g _ => Cert.Moe.frame_reference m g trivial, trivial, Cert.Moe.algebraic⟩

end Cert.Proof

end
